-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layer [hPre_finite_layer : Cert.Pre_finite_layer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layer [hPre_finite_layer : Cert.Pre_finite_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_layer [hKernelIdeal : Cert.KernelIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_layer [hReferenceIdeal : Cert.ReferenceIdeal.Facts] [hPre_finite_layer : Cert.Pre_finite_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def preserves_Kernel_KernelIdeal : Prop :=
  True

def algebraic_KernelIdeal_ReferenceIdeal_pre_finite_layer [hKernelIdeal : Cert.KernelIdeal.Facts] [hReferenceIdeal : Cert.ReferenceIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel6_Kernel6Ideal : Prop :=
  IdealRules.named_const.Statement Cert.Kernel6Ideal.κ "s" .f32 0x3E0293EE#32 (((Real.log 2)⁻¹ * (Real.sqrt 128)⁻¹ : ℝ) : EReal)
  ∧ IdealRules.named_const.Statement Cert.Kernel6Ideal.κ "mask" .f32 0xF149F2CA#32 ⊥

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_v57) = v1 c
          ∧ r.2.mem ((c.tc : Thread Cert.Reference8Ideal.nD Cert.Reference8Ideal.τ).loc Cert.Reference8Ideal.main_v58) = v2 c
          ∧ r.2.mem ((c.tc : Thread Cert.Reference8Ideal.nD Cert.Reference8Ideal.τ).loc Cert.Reference8Ideal.main_v59) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hPre_finite_layer : Cert.Pre_finite_layer.Facts),
    quiescent_Kernel (hKernel := hKernel)
    ∧ quiescent_KernelIdeal (hKernelIdeal := hKernelIdeal)
    ∧ quiescent_KernelIdeal_pre_finite_layer (hKernelIdeal := hKernelIdeal) (hPre_finite_layer := hPre_finite_layer)
    ∧ quiescent_ReferenceIdeal (hReferenceIdeal := hReferenceIdeal)
    ∧ quiescent_ReferenceIdeal_pre_finite_layer (hReferenceIdeal := hReferenceIdeal) (hPre_finite_layer := hPre_finite_layer)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ preserves_Kernel_KernelIdeal
    ∧ algebraic_KernelIdeal_ReferenceIdeal_pre_finite_layer (hKernelIdeal := hKernelIdeal) (hReferenceIdeal := hReferenceIdeal) (hPre_finite_layer := hPre_finite_layer)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ preserves_Kernel8_Kernel8Ideal
    ∧ algebraic_Kernel8Ideal_Reference8Ideal (hKernel8Ideal := hKernel8Ideal) (hReference8Ideal := hReference8Ideal)
    ∧ preserves_Kernel9_Kernel9Ideal
-- ==== Pre_finite_layer.lean ====
abbrev S8192x4096 : Shape := ⟨2, ![8192, 4096]⟩
abbrev S4096 : Shape := ⟨1, ![4096]⟩
abbrev S4096x16384 : Shape := ⟨2, ![4096, 16384]⟩
abbrev S4x2048x2048 : Shape := ⟨3, ![4, 2048, 2048]⟩
abbrev S4x2048 : Shape := ⟨2, ![4, 2048]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S8192x4096 .f32) (main_arg1 : FVec F S4096 .f32) (main_arg2 : FVec F S4096x16384 .f32) (main_arg3 : FVec F S4x2048x2048 .f32) (main_arg4 : FVec F S4x2048 .f32) (main_arg5 : FVec F S8192 .f32) (main_arg6 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S4096x16384 : Shape := ⟨2, ![4096, 16384]⟩
abbrev S4x2048x2048 : Shape := ⟨3, ![4, 2048, 2048]⟩
abbrev S4x2048 : Shape := ⟨2, ![4, 2048]⟩
abbrev S8192 : Shape := ⟨1, ![8192]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x16384 : Shape := ⟨2, ![8192, 16384]⟩
abbrev S2048x4096 : Shape := ⟨2, ![2048, 4096]⟩
abbrev S4096x512 : Shape := ⟨2, ![4096, 512]⟩
abbrev S2048x512 : Shape := ⟨2, ![2048, 512]⟩
abbrev S8192x8192 : Shape := ⟨2, ![8192, 8192]⟩
abbrev S256x8192 : Shape := ⟨2, ![256, 8192]⟩
abbrev S16x8192 : Shape := ⟨2, ![16, 8192]⟩
abbrev S256x512 : Shape := ⟨2, ![256, 512]⟩
abbrev S16x512 : Shape := ⟨2, ![16, 512]⟩
abbrev S272x512 : Shape := ⟨2, ![272, 512]⟩
abbrev S4x1x2048 : Shape := ⟨3, ![4, 1, 2048]⟩
abbrev S1x8192 : Shape := ⟨2, ![1, 8192]⟩
abbrev S4096x2048 : Shape := ⟨2, ![4096, 2048]⟩
abbrev S1x2048x512 : Shape := ⟨3, ![1, 2048, 512]⟩
abbrev S1x1x512 : Shape := ⟨3, ![1, 1, 512]⟩
abbrev S1x512 : Shape := ⟨2, ![1, 512]⟩
abbrev S256x2048 : Shape := ⟨2, ![256, 2048]⟩

abbrev nBuf : Space → Nat
  | .hbm => 16
  | .vmem => 41
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x16384, .f32⟩
  | .hbm, ⟨3, _⟩ => ⟨S4x2048x2048, .f32⟩
  | .hbm, ⟨4, _⟩ => ⟨S4x2048, .f32⟩
  | .hbm, ⟨5, _⟩ => ⟨S8192, .f32⟩
  | .hbm, ⟨6, _⟩ => ⟨S8192x4096, .f32⟩
  | .hbm, ⟨7, _⟩ => ⟨S1x4096, .f32⟩
  | .hbm, ⟨8, _⟩ => ⟨S8192x4096, .bf16⟩
  | .hbm, ⟨9, _⟩ => ⟨S8192x16384, .f32⟩
  | .hbm, ⟨10, _⟩ => ⟨S8192x8192, .bf16⟩
  | .hbm, ⟨11, _⟩ => ⟨S4x1x2048, .f32⟩
  | .hbm, ⟨12, _⟩ => ⟨S1x8192, .f32⟩
  | .hbm, ⟨13, _⟩ => ⟨S8192x8192, .bf16⟩
  | .hbm, ⟨14, _⟩ => ⟨S8192x4096, .f32⟩
  | .hbm, ⟨15, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S2048x4096, .bf16⟩
  | .local _ .vmem, ⟨6, _⟩ => ⟨S4096x512, .f32⟩
  | .local _ .vmem, ⟨7, _⟩ => ⟨S4096x512, .f32⟩
  | .local _ .vmem, ⟨8, _⟩ => ⟨S2048x512, .f32⟩
  | .local _ .vmem, ⟨9, _⟩ => ⟨S2048x512, .f32⟩
  | .local _ .vmem, ⟨10, _⟩ => ⟨S256x8192, .f32⟩
  | .local _ .vmem, ⟨11, _⟩ => ⟨S256x8192, .f32⟩
  | .local _ .vmem, ⟨12, _⟩ => ⟨S16x8192, .f32⟩
  | .local _ .vmem, ⟨13, _⟩ => ⟨S16x8192, .f32⟩
  | .local _ .vmem, ⟨14, _⟩ => ⟨S256x8192, .bf16⟩
  | .local _ .vmem, ⟨15, _⟩ => ⟨S256x8192, .bf16⟩
  | .local _ .vmem, ⟨16, _⟩ => ⟨S4096x2048, .bf16⟩
  | .local _ .vmem, ⟨17, _⟩ => ⟨S1x2048x512, .f32⟩
  | .local _ .vmem, ⟨18, _⟩ => ⟨S1x2048x512, .f32⟩
  | .local _ .vmem, ⟨19, _⟩ => ⟨S1x1x512, .f32⟩
  | .local _ .vmem, ⟨20, _⟩ => ⟨S1x1x512, .f32⟩
  | .local _ .vmem, ⟨21, _⟩ => ⟨S1x512, .f32⟩
  | .local _ .vmem, ⟨22, _⟩ => ⟨S1x512, .f32⟩
  | .local _ .vmem, ⟨23, _⟩ => ⟨S4096x512, .f32⟩
  | .local _ .vmem, ⟨24, _⟩ => ⟨S4096x512, .f32⟩
  | .local _ .vmem, ⟨25, _⟩ => ⟨S4096x512, .bf16⟩
  | .local _ .vmem, ⟨26, _⟩ => ⟨S4096x512, .bf16⟩
  | .local _ .vmem, ⟨27, _⟩ => ⟨S2048x4096, .bf16⟩
  | .local _ .vmem, ⟨28, _⟩ => ⟨S4096x512, .f32⟩
  | .local _ .vmem, ⟨29, _⟩ => ⟨S4096x512, .f32⟩
  | .local _ .vmem, ⟨30, _⟩ => ⟨S2048x512, .f32⟩
  | .local _ .vmem, ⟨31, _⟩ => ⟨S2048x512, .f32⟩
  | .local _ .vmem, ⟨32, _⟩ => ⟨S2048x512, .f32⟩
  | .local _ .vmem, ⟨33, _⟩ => ⟨S2048x512, .f32⟩
  | .local _ .vmem, ⟨34, _⟩ => ⟨S2048x4096, .bf16⟩
  | .local _ .vmem, ⟨35, _⟩ => ⟨S4096x512, .f32⟩
  | .local _ .vmem, ⟨36, _⟩ => ⟨S4096x512, .f32⟩
  | .local _ .vmem, ⟨37, _⟩ => ⟨S2048x512, .f32⟩
  | .local _ .vmem, ⟨38, _⟩ => ⟨S2048x512, .f32⟩
  | .local _ .vmem, ⟨39, _⟩ => ⟨S2048x512, .f32⟩
  | .local _ .vmem, ⟨40, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc4_sem0_0 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem3_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 2, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let c8192_i32 : BitVec 32 := 8192#32
  let v1 : BitVec 32 := Scalar.addi c8192_i32 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_4 : BitVec 32 := 0#32
  ![arg1.toNat, v19.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage3_0 : Fin 1 → Memref sig .tc .vmem S4096x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true, false]

abbrev stage3_1 : Fin 2 → Memref sig .tc .vmem S1x2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 2 → Memref sig .tc .vmem S4096x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S4096x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨2, ![4, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2048x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S2048x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S8192x4096 : Shape := ⟨2, ![8192, 4096]⟩
abbrev S4096 : Shape := ⟨1, ![4096]⟩
abbrev S4096x16384 : Shape := ⟨2, ![4096, 16384]⟩
abbrev S4x2048x2048 : Shape := ⟨3, ![4, 2048, 2048]⟩
abbrev S4x2048 : Shape := ⟨2, ![4, 2048]⟩
abbrev S8192 : Shape := ⟨1, ![8192]⟩
abbrev S_ : Shape := ⟨0, ![]⟩
abbrev S8192x1 : Shape := ⟨2, ![8192, 1]⟩
abbrev S1x4096 : Shape := ⟨2, ![1, 4096]⟩
abbrev S8192x16384 : Shape := ⟨2, ![8192, 16384]⟩
abbrev S8192x8192 : Shape := ⟨2, ![8192, 8192]⟩
abbrev S8192x2048 : Shape := ⟨2, ![8192, 2048]⟩
abbrev S8194x2048 : Shape := ⟨2, ![8194, 2048]⟩
abbrev S8196x2048 : Shape := ⟨2, ![8196, 2048]⟩
abbrev S8200x2048 : Shape := ⟨2, ![8200, 2048]⟩
abbrev S8208x2048 : Shape := ⟨2, ![8208, 2048]⟩
abbrev S8192x1x2048 : Shape := ⟨3, ![8192, 1, 2048]⟩
abbrev S8192x4x2048 : Shape := ⟨3, ![8192, 4, 2048]⟩
abbrev S4x2048x8192 : Shape := ⟨3, ![4, 2048, 8192]⟩
abbrev S1x4x2048 : Shape := ⟨3, ![1, 4, 2048]⟩
abbrev S1x8192 : Shape := ⟨2, ![1, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x16384, .f32⟩
  | .hbm, ⟨3, _⟩ => ⟨S4x2048x2048, .f32⟩
  | .hbm, ⟨4, _⟩ => ⟨S4x2048, .f32⟩
  | .hbm, ⟨5, _⟩ => ⟨S8192, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x16384, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192, .i32⟩
  | .hbm, ⟨30, _⟩ => ⟨S8192x2048, .f32⟩
  | .hbm, ⟨31, _⟩ => ⟨S_, .i32⟩
  | .hbm, ⟨32, _⟩ => ⟨S_, .f32⟩
  | .hbm, ⟨33, _⟩ => ⟨S8194x2048, .f32⟩
  | .hbm, ⟨34, _⟩ => ⟨S8192x2048, .f32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .i32⟩
  | .hbm, ⟨50, _⟩ => ⟨S_, .f32⟩
  | .hbm, ⟨51, _⟩ => ⟨S8196x2048, .f32⟩
  | .hbm, ⟨52, _⟩ => ⟨S8192x2048, .f32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .i32⟩
  | .hbm, ⟨68, _⟩ => ⟨S_, .f32⟩
  | .hbm, ⟨69, _⟩ => ⟨S8200x2048, .f32⟩
  | .hbm, ⟨70, _⟩ => ⟨S8192x2048, .f32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S8192, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S_, .i32⟩
  | .hbm, ⟨86, _⟩ => ⟨S_, .f32⟩
  | .hbm, ⟨87, _⟩ => ⟨S8208x2048, .f32⟩
  | .hbm, ⟨88, _⟩ => ⟨S8192x2048, .f32⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S8192, .f32⟩
  | .hbm, ⟨96, _⟩ => ⟨S8192x1, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x1x2048, .f32⟩
  | .hbm, ⟨103, _⟩ => ⟨S8192x1x2048, .f32⟩
  | .hbm, ⟨104, _⟩ => ⟨S8192x1x2048, .f32⟩
  | .hbm, ⟨105, _⟩ => ⟨S8192x1x2048, .f32⟩
  | .hbm, ⟨106, _⟩ => ⟨S8192x4x2048, .f32⟩
  | .hbm, ⟨107, _⟩ => ⟨S4x2048x8192, .f32⟩
  | .hbm, ⟨108, _⟩ => ⟨S8192x4x2048, .f32⟩
  | .hbm, ⟨109, _⟩ => ⟨S1x4x2048, .f32⟩
  | .hbm, ⟨110, _⟩ => ⟨S8192x4x2048, .f32⟩
  | .hbm, ⟨111, _⟩ => ⟨S8192x4x2048, .f32⟩
  | .hbm, ⟨112, _⟩ => ⟨S8192x8192, .f32⟩
  | .hbm, ⟨113, _⟩ => ⟨S1x8192, .f32⟩
  | .hbm, ⟨114, _⟩ => ⟨S8192x8192, .f32⟩
  | .hbm, ⟨115, _⟩ => ⟨S8192x8192, .f32⟩
  | .hbm, ⟨116, _⟩ => ⟨S8192x8192, .f32⟩
  | .hbm, ⟨117, _⟩ => ⟨S8192x8192, .f32⟩
  | .hbm, ⟨118, _⟩ => ⟨S_, .f32⟩
  | .hbm, ⟨119, _⟩ => ⟨S8192x8192, .f32⟩
  | .hbm, ⟨120, _⟩ => ⟨S8192x8192, .f32⟩
  | .hbm, ⟨121, _⟩ => ⟨S_, .f32⟩
  | .hbm, ⟨122, _⟩ => ⟨S8192x8192, .f32⟩
  | .hbm, ⟨123, _⟩ => ⟨S8192x8192, .f32⟩
  | .hbm, ⟨124, _⟩ => ⟨S8192x8192, .f32⟩
  | .hbm, ⟨125, _⟩ => ⟨S8192x8192, .f32⟩
  | .hbm, ⟨126, _⟩ => ⟨S8192x4096, .f32⟩
  | .hbm, ⟨127, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_call0_cst : Ref sig .tc := ⟨.hbm, 26, rfl⟩
abbrev main_call0_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_call3_v0 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_call4_v0 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Kernel2.lean ====
abbrev S8192x4096 : Shape := ⟨2, ![8192, 4096]⟩
abbrev S4096 : Shape := ⟨1, ![4096]⟩
abbrev S4096x18560 : Shape := ⟨2, ![4096, 18560]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x128 : Shape := ⟨2, ![8192, 128]⟩
abbrev S2048x4096 : Shape := ⟨2, ![2048, 4096]⟩
abbrev S4096x128 : Shape := ⟨2, ![4096, 128]⟩
abbrev S2048x128 : Shape := ⟨2, ![2048, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x18560, .f32⟩
  | .hbm, ⟨3, _⟩ => ⟨S1x4096, .f32⟩
  | .hbm, ⟨4, _⟩ => ⟨S8192x4096, .bf16⟩
  | .hbm, ⟨5, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S2048x4096, .bf16⟩
  | .local _ .vmem, ⟨6, _⟩ => ⟨S4096x128, .f32⟩
  | .local _ .vmem, ⟨7, _⟩ => ⟨S2048x128, .f32⟩
  | .local _ .vmem, ⟨8, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c144_i32 : BitVec 32 := 144#32
  let v0 : BitVec 32 := Scalar.addi arg1 c144_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference2Ideal.lean ====
abbrev S8192x4096 : Shape := ⟨2, ![8192, 4096]⟩
abbrev S4096 : Shape := ⟨1, ![4096]⟩
abbrev S4096x18560 : Shape := ⟨2, ![4096, 18560]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x128 : Shape := ⟨2, ![4096, 128]⟩
abbrev S8192x128 : Shape := ⟨2, ![8192, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x18560, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | .hbm, ⟨20, _⟩ => ⟨S4096x128, .f32⟩
  | .hbm, ⟨21, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S8192x8192 : Shape := ⟨2, ![8192, 8192]⟩
abbrev S8192x4096 : Shape := ⟨2, ![8192, 4096]⟩
abbrev S2048x4096 : Shape := ⟨2, ![2048, 4096]⟩
abbrev S4096x512 : Shape := ⟨2, ![4096, 512]⟩
abbrev S2048x512 : Shape := ⟨2, ![2048, 512]⟩
abbrev S256x4096 : Shape := ⟨2, ![256, 4096]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x4096, .bf16⟩
  | .local _ .vmem, ⟨8, _⟩ => ⟨S4096x512, .f32⟩
  | .local _ .vmem, ⟨9, _⟩ => ⟨S4096x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference3Ideal.lean ====
abbrev S8192x8192 : Shape := ⟨2, ![8192, 8192]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S4096 : Shape := ⟨1, ![4096]⟩
abbrev S4096x16384 : Shape := ⟨2, ![4096, 16384]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x16384 : Shape := ⟨2, ![8192, 16384]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x16384, .f32⟩
  | .hbm, ⟨3, _⟩ => ⟨S1x4096, .f32⟩
  | .hbm, ⟨4, _⟩ => ⟨S8192x4096, .bf16⟩
  | .hbm, ⟨5, _⟩ => ⟨S8192x16384, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S2048x4096, .bf16⟩
  | .local _ .vmem, ⟨6, _⟩ => ⟨S4096x512, .f32⟩
  | .local _ .vmem, ⟨7, _⟩ => ⟨S4096x512, .f32⟩
  | .local _ .vmem, ⟨8, _⟩ => ⟨S2048x512, .bf16⟩
  | .local _ .vmem, ⟨9, _⟩ => ⟨S2048x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S8192x4096 : Shape := ⟨2, ![8192, 4096]⟩
abbrev S4096 : Shape := ⟨1, ![4096]⟩
abbrev S4096x16384 : Shape := ⟨2, ![4096, 16384]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x16384 : Shape := ⟨2, ![8192, 16384]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x16384, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x16384, .f32⟩
  | .hbm, ⟨20, _⟩ => ⟨S8192x16384, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S2048x4096 : Shape := ⟨2, ![2048, 4096]⟩
abbrev S4096x512 : Shape := ⟨2, ![4096, 512]⟩
abbrev S2048x512 : Shape := ⟨2, ![2048, 512]⟩
abbrev S256x4096 : Shape := ⟨2, ![256, 4096]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S4096x18560 : Shape := ⟨2, ![4096, 18560]⟩
abbrev S8192x18432 : Shape := ⟨2, ![8192, 18432]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x18560, .f32⟩
  | .hbm, ⟨2, _⟩ => ⟨S8192x18432, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x4096 : Shape := ⟨2, ![8192, 4096]⟩
abbrev S4096x18560 : Shape := ⟨2, ![4096, 18560]⟩
abbrev S4096x18432 : Shape := ⟨2, ![4096, 18432]⟩
abbrev S8192x18432 : Shape := ⟨2, ![8192, 18432]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x18560, .f32⟩
  | .hbm, ⟨2, _⟩ => ⟨S8192x4096, .f32⟩
  | .hbm, ⟨3, _⟩ => ⟨S4096x18432, .f32⟩
  | .hbm, ⟨4, _⟩ => ⟨S8192x18432, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x16384 : Shape := ⟨2, ![8192, 16384]⟩
abbrev S128 : Shape := ⟨1, ![128]⟩
abbrev S1x128 : Shape := ⟨2, ![1, 128]⟩
abbrev S8192x4096 : Shape := ⟨2, ![8192, 4096]⟩
abbrev S8192x8192 : Shape := ⟨2, ![8192, 8192]⟩
abbrev S32x4096 : Shape := ⟨2, ![32, 4096]⟩
abbrev S256x4096 : Shape := ⟨2, ![256, 4096]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S1x4096 : Shape := ⟨2, ![1, 4096]⟩
abbrev S4096x4096 : Shape := ⟨2, ![4096, 4096]⟩
abbrev S512x128 : Shape := ⟨2, ![512, 128]⟩
abbrev S8192x256 : Shape := ⟨2, ![8192, 256]⟩
abbrev S32x128 : Shape := ⟨2, ![32, 128]⟩
abbrev S15x256x256 : Shape := ⟨3, ![15, 256, 256]⟩
abbrev S2x256x256 : Shape := ⟨3, ![2, 256, 256]⟩
abbrev S2x256x128 : Shape := ⟨3, ![2, 256, 128]⟩
abbrev S32x512 : Shape := ⟨2, ![32, 512]⟩
abbrev S512 : Shape := ⟨1, ![512]⟩
abbrev S1x512 : Shape := ⟨2, ![1, 512]⟩
abbrev S96x512 : Shape := ⟨2, ![96, 512]⟩
abbrev S128x512 : Shape := ⟨2, ![128, 512]⟩
abbrev S512x256 : Shape := ⟨2, ![512, 256]⟩
abbrev S256x256 : Shape := ⟨2, ![256, 256]⟩
abbrev S1x256x256 : Shape := ⟨3, ![1, 256, 256]⟩
abbrev S1x256x128 : Shape := ⟨3, ![1, 256, 128]⟩
abbrev S4096x256 : Shape := ⟨2, ![4096, 256]⟩

abbrev nBuf : Space → Nat
  | .hbm => 12
  | .vmem => 45
  | .smem => 0
  | _ => 0

abbrev bufTy : (tb : Table) → Fin (tcTables nBuf tb) → BufTy
  | .hbm, ⟨0, _⟩ => ⟨S8192x16384, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x4096, .bf16⟩
  | .hbm, ⟨6, _⟩ => ⟨S8192x8192, .bf16⟩
  | .hbm, ⟨7, _⟩ => ⟨S8192x8192, .bf16⟩
  | .hbm, ⟨8, _⟩ => ⟨S32x4096, .f32⟩
  | .hbm, ⟨9, _⟩ => ⟨S4096x4096, .bf16⟩
  | .hbm, ⟨10, _⟩ => ⟨S4096x4096, .bf16⟩
  | .hbm, ⟨11, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x128, .f32⟩
  | .local _ .vmem, ⟨7, _⟩ => ⟨S1x128, .f32⟩
  | .local _ .vmem, ⟨8, _⟩ => ⟨S256x4096, .bf16⟩
  | .local _ .vmem, ⟨9, _⟩ => ⟨S256x4096, .bf16⟩
  | .local _ .vmem, ⟨10, _⟩ => ⟨S256x8192, .bf16⟩
  | .local _ .vmem, ⟨11, _⟩ => ⟨S256x8192, .bf16⟩
  | .local _ .vmem, ⟨12, _⟩ => ⟨S256x8192, .bf16⟩
  | .local _ .vmem, ⟨13, _⟩ => ⟨S256x8192, .bf16⟩
  | .local _ .vmem, ⟨14, _⟩ => ⟨S32x4096, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S8192x256, .bf16⟩
  | .local _ .vmem, ⟨20, _⟩ => ⟨S8192x256, .bf16⟩
  | .local _ .vmem, ⟨21, _⟩ => ⟨S8192x256, .bf16⟩
  | .local _ .vmem, ⟨22, _⟩ => ⟨S8192x256, .bf16⟩
  | .local _ .vmem, ⟨23, _⟩ => ⟨S32x128, .f32⟩
  | .local _ .vmem, ⟨24, _⟩ => ⟨S32x128, .f32⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S15x256x256, .f32⟩
  | .local _ .vmem, ⟨34, _⟩ => ⟨S256x4096, .f32⟩
  | .local _ .vmem, ⟨35, _⟩ => ⟨S2x256x256, .f32⟩
  | .local _ .vmem, ⟨36, _⟩ => ⟨S2x256x256, .bf16⟩
  | .local _ .vmem, ⟨37, _⟩ => ⟨S2x256x128, .f32⟩
  | .local _ .vmem, ⟨38, _⟩ => ⟨S256x128, .f32⟩
  | .local _ .vmem, ⟨39, _⟩ => ⟨S15x256x256, .f32⟩
  | .local _ .vmem, ⟨40, _⟩ => ⟨S256x4096, .f32⟩
  | .local _ .vmem, ⟨41, _⟩ => ⟨S2x256x256, .f32⟩
  | .local _ .vmem, ⟨42, _⟩ => ⟨S2x256x256, .bf16⟩
  | .local _ .vmem, ⟨43, _⟩ => ⟨S2x256x128, .f32⟩
  | .local _ .vmem, ⟨44, _⟩ => ⟨S256x128, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc1_scratch7 : Ref sig .tc := ⟨.vmem, 40, rfl⟩
abbrev cc1_scratch8 : Ref sig .tc := ⟨.vmem, 41, rfl⟩
abbrev cc1_scratch9 : Ref sig .tc := ⟨.vmem, 42, rfl⟩
abbrev cc1_scratch10 : Ref sig .tc := ⟨.vmem, 43, rfl⟩
abbrev cc1_scratch11 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![32, 8], ![false, false]⟩

def k1_mult1 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c256_i32_31 : BitVec 32 := 256#32
  let v94 : BitVec 32 := Scalar.muli v1 c256_i32_31
  v94
def k1_off1 (i : grid1.Coords) (c0_i32 : BitVec 32) : Fin 2 → Nat :=
  let c2_i32 : BitVec 32 := 2#32
  let arg1 : BitVec 32 := BitVec.ofNat 32 (i 1).val
  let v0 : BitVec 32 := Scalar.muli c2_i32 arg1
  let v1 : BitVec 32 := Scalar.addi v0 c0_i32
  let c256_i32_31 : BitVec 32 := 256#32
  let v94 : BitVec 32 := Scalar.muli v1 c256_i32_31
  let v95 : BitVec 32 := v94
  let v97 : Index := Scalar.indexCast v95
  let c0_32 : Index := 0#32
  ![v97.toNat, 0]
def k1_mult2 (i : grid1.Coords) : BitVec 32 :=
  let c31_i32 : BitVec 32 := 31#32
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let v4 : BitVec 32 := Scalar.subi c31_i32 v1
  let c256_i32_43 : BitVec 32 := 256#32
  let v117 : BitVec 32 := Scalar.muli v4 c256_i32_43
  v117
def k1_off2 (i : grid1.Coords) (c0_i32 : BitVec 32) : Fin 2 → Nat :=
  let c31_i32 : BitVec 32 := 31#32
  let c2_i32 : BitVec 32 := 2#32
  let arg1 : BitVec 32 := BitVec.ofNat 32 (i 1).val
  let v0 : BitVec 32 := Scalar.muli c2_i32 arg1
  let v1 : BitVec 32 := Scalar.addi v0 c0_i32
  let v4 : BitVec 32 := Scalar.subi c31_i32 v1
  let c256_i32_43 : BitVec 32 := 256#32
  let v117 : BitVec 32 := Scalar.muli v4 c256_i32_43
  let v118 : BitVec 32 := v117
  let v120 : Index := Scalar.indexCast v118
  let c0_44 : Index := 0#32
  ![v120.toNat, 0]
def k1_mult3 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c256_i32_105 : BitVec 32 := 256#32
  let v309 : BitVec 32 := Scalar.muli v3 c256_i32_105
  v309
def k1_mult4 (i : grid1.Coords) : BitVec 32 :=
  let c31_i32_53 : BitVec 32 := 31#32
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let v136 : BitVec 32 := Scalar.subi c31_i32_53 v3
  let c256_i32_118 : BitVec 32 := 256#32
  let v332 : BitVec 32 := Scalar.muli v136 c256_i32_118
  v332
def k1_mult5 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c0_i32_128 : BitVec 32 := 0#32
  let v351 : BitVec 1 := Scalar.cmpi .sgt v1 c0_i32_128
  let c0_i32_131 : BitVec 32 := 0#32
  let c16_i32 : BitVec 32 := 16#32
  let v353 : BitVec 32 := Scalar.subi c16_i32 v1
  let v354 : BitVec 32 := Scalar.select v351 c0_i32_131 v353
  let c256_i32_132 : BitVec 32 := 256#32
  let v355 : BitVec 32 := Scalar.muli v354 c256_i32_132
  v355
def k1_off3 (i : grid1.Coords) (c0_i32 : BitVec 32) (c0_i32_128 : BitVec 32) : Fin 3 → Nat :=
  let c2_i32 : BitVec 32 := 2#32
  let arg1 : BitVec 32 := BitVec.ofNat 32 (i 1).val
  let v0 : BitVec 32 := Scalar.muli c2_i32 arg1
  let v1 : BitVec 32 := Scalar.addi v0 c0_i32
  let v351 : BitVec 1 := Scalar.cmpi .sgt v1 c0_i32_128
  let c0_i32_129 : BitVec 32 := 0#32
  let c1_i32_130 : BitVec 32 := 1#32
  let v352 : BitVec 32 := Scalar.select v351 c0_i32_129 c1_i32_130
  let v357 : Index := Scalar.indexCast v352
  let c0_133 : Index := 0#32
  let c0_134 : Index := 0#32
  ![v357.toNat, 0, 0]
def k1_off4 (i : grid1.Coords) (c0_i32 : BitVec 32) (c0_i32_128 : BitVec 32) (c0_i32_131 : BitVec 32) (c16_i32 : BitVec 32) : Fin 2 → Nat :=
  let c2_i32 : BitVec 32 := 2#32
  let arg1 : BitVec 32 := BitVec.ofNat 32 (i 1).val
  let v0 : BitVec 32 := Scalar.muli c2_i32 arg1
  let v1 : BitVec 32 := Scalar.addi v0 c0_i32
  let v351 : BitVec 1 := Scalar.cmpi .sgt v1 c0_i32_128
  let v353 : BitVec 32 := Scalar.subi c16_i32 v1
  let v354 : BitVec 32 := Scalar.select v351 c0_i32_131 v353
  let c256_i32_132 : BitVec 32 := 256#32
  let v355 : BitVec 32 := Scalar.muli v354 c256_i32_132
  let v356 : BitVec 32 := v355
  let v360 : Index := Scalar.indexCast v356
  let c0_135 : Index := 0#32
  ![v360.toNat, 0]
def k1_off4_at (r : Fin 30) : BitVec 32 × BitVec 32 × BitVec 32 × BitVec 32 :=
  if r.val < 15 then
    if r.val < 7 then
      if r.val < 3 then
        if r.val < 1 then
          (0#32, 0#32, 0#32, 16#32)
        else
          if r.val < 2 then
            (0#32, 1#32, 1#32, 17#32)
          else
            (0#32, 2#32, 2#32, 18#32)
      else
        if r.val < 5 then
          if r.val < 4 then
            (0#32, 3#32, 3#32, 19#32)
          else
            (1#32, 0#32, 0#32, 16#32)
        else
          if r.val < 6 then
            (1#32, 1#32, 1#32, 17#32)
          else
            (1#32, 2#32, 2#32, 18#32)
    else
      if r.val < 11 then
        if r.val < 9 then
          if r.val < 8 then
            (1#32, 3#32, 3#32, 19#32)
          else
            (0#32, 4#32, 4#32, 20#32)
        else
          if r.val < 10 then
            (0#32, 5#32, 5#32, 21#32)
          else
            (0#32, 6#32, 6#32, 22#32)
      else
        if r.val < 13 then
          if r.val < 12 then
            (0#32, 7#32, 7#32, 23#32)
          else
            (0#32, 8#32, 8#32, 24#32)
        else
          if r.val < 14 then
            (0#32, 9#32, 9#32, 25#32)
          else
            (0#32, 10#32, 10#32, 26#32)
  else
    if r.val < 22 then
      if r.val < 18 then
        if r.val < 16 then
          (0#32, 11#32, 11#32, 27#32)
        else
          if r.val < 17 then
            (1#32, 4#32, 4#32, 20#32)
          else
            (1#32, 5#32, 5#32, 21#32)
      else
        if r.val < 20 then
          if r.val < 19 then
            (1#32, 6#32, 6#32, 22#32)
          else
            (1#32, 7#32, 7#32, 23#32)
        else
          if r.val < 21 then
            (0#32, 12#32, 12#32, 28#32)
          else
            (0#32, 13#32, 13#32, 29#32)
    else
      if r.val < 26 then
        if r.val < 24 then
          if r.val < 23 then
            (0#32, 14#32, 14#32, 30#32)
          else
            (1#32, 8#32, 8#32, 24#32)
        else
          if r.val < 25 then
            (1#32, 9#32, 9#32, 25#32)
          else
            (1#32, 10#32, 10#32, 26#32)
      else
        if r.val < 28 then
          if r.val < 27 then
            (1#32, 11#32, 11#32, 27#32)
          else
            (1#32, 12#32, 12#32, 28#32)
        else
          if r.val < 29 then
            (1#32, 13#32, 13#32, 29#32)
          else
            (1#32, 14#32, 14#32, 30#32)
def k1_mult6 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c1_i32_142 : BitVec 32 := 1#32
  let v376 : BitVec 1 := Scalar.cmpi .sgt v1 c1_i32_142
  let c1_i32_145 : BitVec 32 := 1#32
  let c17_i32 : BitVec 32 := 17#32
  let v378 : BitVec 32 := Scalar.subi c17_i32 v1
  let v379 : BitVec 32 := Scalar.select v376 c1_i32_145 v378
  let c256_i32_146 : BitVec 32 := 256#32
  let v380 : BitVec 32 := Scalar.muli v379 c256_i32_146
  v380
def k1_mult7 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c2_i32_156 : BitVec 32 := 2#32
  let v401 : BitVec 1 := Scalar.cmpi .sgt v1 c2_i32_156
  let c2_i32_159 : BitVec 32 := 2#32
  let c18_i32 : BitVec 32 := 18#32
  let v403 : BitVec 32 := Scalar.subi c18_i32 v1
  let v404 : BitVec 32 := Scalar.select v401 c2_i32_159 v403
  let c256_i32_160 : BitVec 32 := 256#32
  let v405 : BitVec 32 := Scalar.muli v404 c256_i32_160
  v405
def k1_mult8 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c3_i32 : BitVec 32 := 3#32
  let v426 : BitVec 1 := Scalar.cmpi .sgt v1 c3_i32
  let c3_i32_171 : BitVec 32 := 3#32
  let c19_i32 : BitVec 32 := 19#32
  let v428 : BitVec 32 := Scalar.subi c19_i32 v1
  let v429 : BitVec 32 := Scalar.select v426 c3_i32_171 v428
  let c256_i32_172 : BitVec 32 := 256#32
  let v430 : BitVec 32 := Scalar.muli v429 c256_i32_172
  v430
def k1_off5 (i : grid1.Coords) (c0_i32 : BitVec 32) : Fin 2 → Nat :=
  let c31_i32 : BitVec 32 := 31#32
  let c2_i32 : BitVec 32 := 2#32
  let arg1 : BitVec 32 := BitVec.ofNat 32 (i 1).val
  let v0 : BitVec 32 := Scalar.muli c2_i32 arg1
  let v1 : BitVec 32 := Scalar.addi v0 c0_i32
  let v4 : BitVec 32 := Scalar.subi c31_i32 v1
  let c256_i32_43 : BitVec 32 := 256#32
  let v117 : BitVec 32 := Scalar.muli v4 c256_i32_43
  let v118 : BitVec 32 := v117
  let v545 : Index := Scalar.indexCast v118
  let c0_203 : Index := 0#32
  ![v545.toNat, 0]
def k1_mult9 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c0_i32_212 : BitVec 32 := 0#32
  let v653 : BitVec 1 := Scalar.cmpi .sgt v3 c0_i32_212
  let c0_i32_216 : BitVec 32 := 0#32
  let c16_i32_215 : BitVec 32 := 16#32
  let v655 : BitVec 32 := Scalar.subi c16_i32_215 v3
  let v656 : BitVec 32 := Scalar.select v653 c0_i32_216 v655
  let c256_i32_217 : BitVec 32 := 256#32
  let v657 : BitVec 32 := Scalar.muli v656 c256_i32_217
  v657
def k1_mult10 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c1_i32_227 : BitVec 32 := 1#32
  let v678 : BitVec 1 := Scalar.cmpi .sgt v3 c1_i32_227
  let c1_i32_231 : BitVec 32 := 1#32
  let c17_i32_230 : BitVec 32 := 17#32
  let v680 : BitVec 32 := Scalar.subi c17_i32_230 v3
  let v681 : BitVec 32 := Scalar.select v678 c1_i32_231 v680
  let c256_i32_232 : BitVec 32 := 256#32
  let v682 : BitVec 32 := Scalar.muli v681 c256_i32_232
  v682
def k1_mult11 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c2_i32_242 : BitVec 32 := 2#32
  let v703 : BitVec 1 := Scalar.cmpi .sgt v3 c2_i32_242
  let c2_i32_246 : BitVec 32 := 2#32
  let c18_i32_245 : BitVec 32 := 18#32
  let v705 : BitVec 32 := Scalar.subi c18_i32_245 v3
  let v706 : BitVec 32 := Scalar.select v703 c2_i32_246 v705
  let c256_i32_247 : BitVec 32 := 256#32
  let v707 : BitVec 32 := Scalar.muli v706 c256_i32_247
  v707
def k1_mult12 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c3_i32_257 : BitVec 32 := 3#32
  let v728 : BitVec 1 := Scalar.cmpi .sgt v3 c3_i32_257
  let c3_i32_261 : BitVec 32 := 3#32
  let c19_i32_260 : BitVec 32 := 19#32
  let v730 : BitVec 32 := Scalar.subi c19_i32_260 v3
  let v731 : BitVec 32 := Scalar.select v728 c3_i32_261 v730
  let c256_i32_262 : BitVec 32 := 256#32
  let v732 : BitVec 32 := Scalar.muli v731 c256_i32_262
  v732
def k1_mult13 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c4_i32 : BitVec 32 := 4#32
  let v753 : BitVec 1 := Scalar.cmpi .sgt v1 c4_i32
  let c4_i32_274 : BitVec 32 := 4#32
  let c20_i32 : BitVec 32 := 20#32
  let v755 : BitVec 32 := Scalar.subi c20_i32 v1
  let v756 : BitVec 32 := Scalar.select v753 c4_i32_274 v755
  let c256_i32_275 : BitVec 32 := 256#32
  let v757 : BitVec 32 := Scalar.muli v756 c256_i32_275
  v757
def k1_mult14 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c5_i32 : BitVec 32 := 5#32
  let v778 : BitVec 1 := Scalar.cmpi .sgt v1 c5_i32
  let c5_i32_286 : BitVec 32 := 5#32
  let c21_i32 : BitVec 32 := 21#32
  let v780 : BitVec 32 := Scalar.subi c21_i32 v1
  let v781 : BitVec 32 := Scalar.select v778 c5_i32_286 v780
  let c256_i32_287 : BitVec 32 := 256#32
  let v782 : BitVec 32 := Scalar.muli v781 c256_i32_287
  v782
def k1_mult15 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c6_i32 : BitVec 32 := 6#32
  let v803 : BitVec 1 := Scalar.cmpi .sgt v1 c6_i32
  let c6_i32_298 : BitVec 32 := 6#32
  let c22_i32 : BitVec 32 := 22#32
  let v805 : BitVec 32 := Scalar.subi c22_i32 v1
  let v806 : BitVec 32 := Scalar.select v803 c6_i32_298 v805
  let c256_i32_299 : BitVec 32 := 256#32
  let v807 : BitVec 32 := Scalar.muli v806 c256_i32_299
  v807
def k1_mult16 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c7_i32 : BitVec 32 := 7#32
  let v828 : BitVec 1 := Scalar.cmpi .sgt v1 c7_i32
  let c7_i32_310 : BitVec 32 := 7#32
  let c23_i32 : BitVec 32 := 23#32
  let v830 : BitVec 32 := Scalar.subi c23_i32 v1
  let v831 : BitVec 32 := Scalar.select v828 c7_i32_310 v830
  let c256_i32_311 : BitVec 32 := 256#32
  let v832 : BitVec 32 := Scalar.muli v831 c256_i32_311
  v832
def k1_mult17 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c8_i32 : BitVec 32 := 8#32
  let v972 : BitVec 1 := Scalar.cmpi .sgt v1 c8_i32
  let c8_i32_336 : BitVec 32 := 8#32
  let c24_i32 : BitVec 32 := 24#32
  let v974 : BitVec 32 := Scalar.subi c24_i32 v1
  let v975 : BitVec 32 := Scalar.select v972 c8_i32_336 v974
  let c256_i32_337 : BitVec 32 := 256#32
  let v976 : BitVec 32 := Scalar.muli v975 c256_i32_337
  v976
def k1_mult18 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c9_i32 : BitVec 32 := 9#32
  let v997 : BitVec 1 := Scalar.cmpi .sgt v1 c9_i32
  let c9_i32_348 : BitVec 32 := 9#32
  let c25_i32 : BitVec 32 := 25#32
  let v999 : BitVec 32 := Scalar.subi c25_i32 v1
  let v1000 : BitVec 32 := Scalar.select v997 c9_i32_348 v999
  let c256_i32_349 : BitVec 32 := 256#32
  let v1001 : BitVec 32 := Scalar.muli v1000 c256_i32_349
  v1001
def k1_mult19 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v1022 : BitVec 1 := Scalar.cmpi .sgt v1 c10_i32
  let c10_i32_360 : BitVec 32 := 10#32
  let c26_i32 : BitVec 32 := 26#32
  let v1024 : BitVec 32 := Scalar.subi c26_i32 v1
  let v1025 : BitVec 32 := Scalar.select v1022 c10_i32_360 v1024
  let c256_i32_361 : BitVec 32 := 256#32
  let v1026 : BitVec 32 := Scalar.muli v1025 c256_i32_361
  v1026
def k1_mult20 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c11_i32 : BitVec 32 := 11#32
  let v1047 : BitVec 1 := Scalar.cmpi .sgt v1 c11_i32
  let c11_i32_372 : BitVec 32 := 11#32
  let c27_i32 : BitVec 32 := 27#32
  let v1049 : BitVec 32 := Scalar.subi c27_i32 v1
  let v1050 : BitVec 32 := Scalar.select v1047 c11_i32_372 v1049
  let c256_i32_373 : BitVec 32 := 256#32
  let v1051 : BitVec 32 := Scalar.muli v1050 c256_i32_373
  v1051
def k1_mult21 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c4_i32_382 : BitVec 32 := 4#32
  let v1072 : BitVec 1 := Scalar.cmpi .sgt v3 c4_i32_382
  let c4_i32_386 : BitVec 32 := 4#32
  let c20_i32_385 : BitVec 32 := 20#32
  let v1074 : BitVec 32 := Scalar.subi c20_i32_385 v3
  let v1075 : BitVec 32 := Scalar.select v1072 c4_i32_386 v1074
  let c256_i32_387 : BitVec 32 := 256#32
  let v1076 : BitVec 32 := Scalar.muli v1075 c256_i32_387
  v1076
def k1_mult22 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c5_i32_397 : BitVec 32 := 5#32
  let v1097 : BitVec 1 := Scalar.cmpi .sgt v3 c5_i32_397
  let c5_i32_401 : BitVec 32 := 5#32
  let c21_i32_400 : BitVec 32 := 21#32
  let v1099 : BitVec 32 := Scalar.subi c21_i32_400 v3
  let v1100 : BitVec 32 := Scalar.select v1097 c5_i32_401 v1099
  let c256_i32_402 : BitVec 32 := 256#32
  let v1101 : BitVec 32 := Scalar.muli v1100 c256_i32_402
  v1101
def k1_mult23 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c6_i32_412 : BitVec 32 := 6#32
  let v1122 : BitVec 1 := Scalar.cmpi .sgt v3 c6_i32_412
  let c6_i32_416 : BitVec 32 := 6#32
  let c22_i32_415 : BitVec 32 := 22#32
  let v1124 : BitVec 32 := Scalar.subi c22_i32_415 v3
  let v1125 : BitVec 32 := Scalar.select v1122 c6_i32_416 v1124
  let c256_i32_417 : BitVec 32 := 256#32
  let v1126 : BitVec 32 := Scalar.muli v1125 c256_i32_417
  v1126
def k1_mult24 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c7_i32_427 : BitVec 32 := 7#32
  let v1147 : BitVec 1 := Scalar.cmpi .sgt v3 c7_i32_427
  let c7_i32_431 : BitVec 32 := 7#32
  let c23_i32_430 : BitVec 32 := 23#32
  let v1149 : BitVec 32 := Scalar.subi c23_i32_430 v3
  let v1150 : BitVec 32 := Scalar.select v1147 c7_i32_431 v1149
  let c256_i32_432 : BitVec 32 := 256#32
  let v1151 : BitVec 32 := Scalar.muli v1150 c256_i32_432
  v1151
def k1_mult25 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c12_i32 : BitVec 32 := 12#32
  let v1172 : BitVec 1 := Scalar.cmpi .sgt v1 c12_i32
  let c12_i32_444 : BitVec 32 := 12#32
  let c28_i32 : BitVec 32 := 28#32
  let v1174 : BitVec 32 := Scalar.subi c28_i32 v1
  let v1175 : BitVec 32 := Scalar.select v1172 c12_i32_444 v1174
  let c256_i32_445 : BitVec 32 := 256#32
  let v1176 : BitVec 32 := Scalar.muli v1175 c256_i32_445
  v1176
def k1_mult26 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c13_i32 : BitVec 32 := 13#32
  let v1197 : BitVec 1 := Scalar.cmpi .sgt v1 c13_i32
  let c13_i32_456 : BitVec 32 := 13#32
  let c29_i32 : BitVec 32 := 29#32
  let v1199 : BitVec 32 := Scalar.subi c29_i32 v1
  let v1200 : BitVec 32 := Scalar.select v1197 c13_i32_456 v1199
  let c256_i32_457 : BitVec 32 := 256#32
  let v1201 : BitVec 32 := Scalar.muli v1200 c256_i32_457
  v1201
def k1_mult27 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c14_i32 : BitVec 32 := 14#32
  let v1222 : BitVec 1 := Scalar.cmpi .sgt v1 c14_i32
  let c14_i32_468 : BitVec 32 := 14#32
  let c30_i32 : BitVec 32 := 30#32
  let v1224 : BitVec 32 := Scalar.subi c30_i32 v1
  let v1225 : BitVec 32 := Scalar.select v1222 c14_i32_468 v1224
  let c256_i32_469 : BitVec 32 := 256#32
  let v1226 : BitVec 32 := Scalar.muli v1225 c256_i32_469
  v1226
def k1_mult28 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c8_i32_488 : BitVec 32 := 8#32
  let v1263 : BitVec 1 := Scalar.cmpi .sgt v3 c8_i32_488
  let c8_i32_492 : BitVec 32 := 8#32
  let c24_i32_491 : BitVec 32 := 24#32
  let v1265 : BitVec 32 := Scalar.subi c24_i32_491 v3
  let v1266 : BitVec 32 := Scalar.select v1263 c8_i32_492 v1265
  let c256_i32_493 : BitVec 32 := 256#32
  let v1267 : BitVec 32 := Scalar.muli v1266 c256_i32_493
  v1267
def k1_mult29 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c9_i32_503 : BitVec 32 := 9#32
  let v1288 : BitVec 1 := Scalar.cmpi .sgt v3 c9_i32_503
  let c9_i32_507 : BitVec 32 := 9#32
  let c25_i32_506 : BitVec 32 := 25#32
  let v1290 : BitVec 32 := Scalar.subi c25_i32_506 v3
  let v1291 : BitVec 32 := Scalar.select v1288 c9_i32_507 v1290
  let c256_i32_508 : BitVec 32 := 256#32
  let v1292 : BitVec 32 := Scalar.muli v1291 c256_i32_508
  v1292
def k1_mult30 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c10_i32_518 : BitVec 32 := 10#32
  let v1313 : BitVec 1 := Scalar.cmpi .sgt v3 c10_i32_518
  let c10_i32_522 : BitVec 32 := 10#32
  let c26_i32_521 : BitVec 32 := 26#32
  let v1315 : BitVec 32 := Scalar.subi c26_i32_521 v3
  let v1316 : BitVec 32 := Scalar.select v1313 c10_i32_522 v1315
  let c256_i32_523 : BitVec 32 := 256#32
  let v1317 : BitVec 32 := Scalar.muli v1316 c256_i32_523
  v1317
def k1_mult31 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c11_i32_533 : BitVec 32 := 11#32
  let v1338 : BitVec 1 := Scalar.cmpi .sgt v3 c11_i32_533
  let c11_i32_537 : BitVec 32 := 11#32
  let c27_i32_536 : BitVec 32 := 27#32
  let v1340 : BitVec 32 := Scalar.subi c27_i32_536 v3
  let v1341 : BitVec 32 := Scalar.select v1338 c11_i32_537 v1340
  let c256_i32_538 : BitVec 32 := 256#32
  let v1342 : BitVec 32 := Scalar.muli v1341 c256_i32_538
  v1342
def k1_off6 (i : grid1.Coords) (c0_i32 : BitVec 32) : Fin 2 → Nat :=
  let c2_i32 : BitVec 32 := 2#32
  let arg1 : BitVec 32 := BitVec.ofNat 32 (i 1).val
  let v0 : BitVec 32 := Scalar.muli c2_i32 arg1
  let v1 : BitVec 32 := Scalar.addi v0 c0_i32
  let c256_i32_31 : BitVec 32 := 256#32
  let v94 : BitVec 32 := Scalar.muli v1 c256_i32_31
  let v95 : BitVec 32 := v94
  let v1380 : Index := Scalar.indexCast v95
  let c0_559 : Index := 0#32
  ![v1380.toNat, 0]
def k1_mult32 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c12_i32_561 : BitVec 32 := 12#32
  let v1389 : BitVec 1 := Scalar.cmpi .sgt v3 c12_i32_561
  let c12_i32_565 : BitVec 32 := 12#32
  let c28_i32_564 : BitVec 32 := 28#32
  let v1391 : BitVec 32 := Scalar.subi c28_i32_564 v3
  let v1392 : BitVec 32 := Scalar.select v1389 c12_i32_565 v1391
  let c256_i32_566 : BitVec 32 := 256#32
  let v1393 : BitVec 32 := Scalar.muli v1392 c256_i32_566
  v1393
def k1_mult33 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c13_i32_576 : BitVec 32 := 13#32
  let v1414 : BitVec 1 := Scalar.cmpi .sgt v3 c13_i32_576
  let c13_i32_580 : BitVec 32 := 13#32
  let c29_i32_579 : BitVec 32 := 29#32
  let v1416 : BitVec 32 := Scalar.subi c29_i32_579 v3
  let v1417 : BitVec 32 := Scalar.select v1414 c13_i32_580 v1416
  let c256_i32_581 : BitVec 32 := 256#32
  let v1418 : BitVec 32 := Scalar.muli v1417 c256_i32_581
  v1418
def k1_mult34 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c14_i32_591 : BitVec 32 := 14#32
  let v1439 : BitVec 1 := Scalar.cmpi .sgt v3 c14_i32_591
  let c14_i32_595 : BitVec 32 := 14#32
  let c30_i32_594 : BitVec 32 := 30#32
  let v1441 : BitVec 32 := Scalar.subi c30_i32_594 v3
  let v1442 : BitVec 32 := Scalar.select v1439 c14_i32_595 v1441
  let c256_i32_596 : BitVec 32 := 256#32
  let v1443 : BitVec 32 := Scalar.muli v1442 c256_i32_596
  v1443
def k1_mult35 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c0_i32_616 : BitVec 32 := 0#32
  let v1480 : BitVec 1 := Scalar.cmpi .sgt v1 c0_i32_616
  let c0_i32_620 : BitVec 32 := 0#32
  let c16_i32_619 : BitVec 32 := 16#32
  let v1482 : BitVec 32 := Scalar.subi c16_i32_619 v1
  let v1483 : BitVec 32 := Scalar.select v1480 c0_i32_620 v1482
  let c256_i32_621 : BitVec 32 := 256#32
  let v1484 : BitVec 32 := Scalar.muli v1483 c256_i32_621
  v1484
def k1_off7 (i : grid1.Coords) (c0_i32 : BitVec 32) (c0_i32_616 : BitVec 32) : Fin 3 → Nat :=
  let c2_i32 : BitVec 32 := 2#32
  let arg1 : BitVec 32 := BitVec.ofNat 32 (i 1).val
  let v0 : BitVec 32 := Scalar.muli c2_i32 arg1
  let v1 : BitVec 32 := Scalar.addi v0 c0_i32
  let v1480 : BitVec 1 := Scalar.cmpi .sgt v1 c0_i32_616
  let c0_i32_617 : BitVec 32 := 0#32
  let c1_i32_618 : BitVec 32 := 1#32
  let v1481 : BitVec 32 := Scalar.select v1480 c0_i32_617 c1_i32_618
  let v1488 : Index := Scalar.indexCast v1481
  let c0_625 : Index := 0#32
  let c0_626 : Index := 0#32
  ![v1488.toNat, 0, 0]
def k1_mult36 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c1_i32_630 : BitVec 32 := 1#32
  let v1508 : BitVec 1 := Scalar.cmpi .sgt v1 c1_i32_630
  let c1_i32_634 : BitVec 32 := 1#32
  let c17_i32_633 : BitVec 32 := 17#32
  let v1510 : BitVec 32 := Scalar.subi c17_i32_633 v1
  let v1511 : BitVec 32 := Scalar.select v1508 c1_i32_634 v1510
  let c256_i32_635 : BitVec 32 := 256#32
  let v1512 : BitVec 32 := Scalar.muli v1511 c256_i32_635
  v1512
def k1_mult37 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c2_i32_644 : BitVec 32 := 2#32
  let v1536 : BitVec 1 := Scalar.cmpi .sgt v1 c2_i32_644
  let c2_i32_648 : BitVec 32 := 2#32
  let c18_i32_647 : BitVec 32 := 18#32
  let v1538 : BitVec 32 := Scalar.subi c18_i32_647 v1
  let v1539 : BitVec 32 := Scalar.select v1536 c2_i32_648 v1538
  let c256_i32_649 : BitVec 32 := 256#32
  let v1540 : BitVec 32 := Scalar.muli v1539 c256_i32_649
  v1540
def k1_mult38 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c3_i32_658 : BitVec 32 := 3#32
  let v1564 : BitVec 1 := Scalar.cmpi .sgt v1 c3_i32_658
  let c3_i32_662 : BitVec 32 := 3#32
  let c19_i32_661 : BitVec 32 := 19#32
  let v1566 : BitVec 32 := Scalar.subi c19_i32_661 v1
  let v1567 : BitVec 32 := Scalar.select v1564 c3_i32_662 v1566
  let c256_i32_663 : BitVec 32 := 256#32
  let v1568 : BitVec 32 := Scalar.muli v1567 c256_i32_663
  v1568
def k1_mult39 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c4_i32_685 : BitVec 32 := 4#32
  let v1618 : BitVec 1 := Scalar.cmpi .sgt v1 c4_i32_685
  let c4_i32_689 : BitVec 32 := 4#32
  let c20_i32_688 : BitVec 32 := 20#32
  let v1620 : BitVec 32 := Scalar.subi c20_i32_688 v1
  let v1621 : BitVec 32 := Scalar.select v1618 c4_i32_689 v1620
  let c256_i32_690 : BitVec 32 := 256#32
  let v1622 : BitVec 32 := Scalar.muli v1621 c256_i32_690
  v1622
def k1_mult40 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c5_i32_699 : BitVec 32 := 5#32
  let v1646 : BitVec 1 := Scalar.cmpi .sgt v1 c5_i32_699
  let c5_i32_703 : BitVec 32 := 5#32
  let c21_i32_702 : BitVec 32 := 21#32
  let v1648 : BitVec 32 := Scalar.subi c21_i32_702 v1
  let v1649 : BitVec 32 := Scalar.select v1646 c5_i32_703 v1648
  let c256_i32_704 : BitVec 32 := 256#32
  let v1650 : BitVec 32 := Scalar.muli v1649 c256_i32_704
  v1650
def k1_mult41 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c6_i32_713 : BitVec 32 := 6#32
  let v1674 : BitVec 1 := Scalar.cmpi .sgt v1 c6_i32_713
  let c6_i32_717 : BitVec 32 := 6#32
  let c22_i32_716 : BitVec 32 := 22#32
  let v1676 : BitVec 32 := Scalar.subi c22_i32_716 v1
  let v1677 : BitVec 32 := Scalar.select v1674 c6_i32_717 v1676
  let c256_i32_718 : BitVec 32 := 256#32
  let v1678 : BitVec 32 := Scalar.muli v1677 c256_i32_718
  v1678
def k1_mult42 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c7_i32_727 : BitVec 32 := 7#32
  let v1702 : BitVec 1 := Scalar.cmpi .sgt v1 c7_i32_727
  let c7_i32_731 : BitVec 32 := 7#32
  let c23_i32_730 : BitVec 32 := 23#32
  let v1704 : BitVec 32 := Scalar.subi c23_i32_730 v1
  let v1705 : BitVec 32 := Scalar.select v1702 c7_i32_731 v1704
  let c256_i32_732 : BitVec 32 := 256#32
  let v1706 : BitVec 32 := Scalar.muli v1705 c256_i32_732
  v1706
def k1_mult43 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c0_i32_741 : BitVec 32 := 0#32
  let v1730 : BitVec 1 := Scalar.cmpi .sgt v3 c0_i32_741
  let c0_i32_745 : BitVec 32 := 0#32
  let c16_i32_744 : BitVec 32 := 16#32
  let v1732 : BitVec 32 := Scalar.subi c16_i32_744 v3
  let v1733 : BitVec 32 := Scalar.select v1730 c0_i32_745 v1732
  let c256_i32_746 : BitVec 32 := 256#32
  let v1734 : BitVec 32 := Scalar.muli v1733 c256_i32_746
  v1734
def k1_mult44 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c1_i32_755 : BitVec 32 := 1#32
  let v1758 : BitVec 1 := Scalar.cmpi .sgt v3 c1_i32_755
  let c1_i32_759 : BitVec 32 := 1#32
  let c17_i32_758 : BitVec 32 := 17#32
  let v1760 : BitVec 32 := Scalar.subi c17_i32_758 v3
  let v1761 : BitVec 32 := Scalar.select v1758 c1_i32_759 v1760
  let c256_i32_760 : BitVec 32 := 256#32
  let v1762 : BitVec 32 := Scalar.muli v1761 c256_i32_760
  v1762
def k1_mult45 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c2_i32_769 : BitVec 32 := 2#32
  let v1786 : BitVec 1 := Scalar.cmpi .sgt v3 c2_i32_769
  let c2_i32_773 : BitVec 32 := 2#32
  let c18_i32_772 : BitVec 32 := 18#32
  let v1788 : BitVec 32 := Scalar.subi c18_i32_772 v3
  let v1789 : BitVec 32 := Scalar.select v1786 c2_i32_773 v1788
  let c256_i32_774 : BitVec 32 := 256#32
  let v1790 : BitVec 32 := Scalar.muli v1789 c256_i32_774
  v1790
def k1_mult46 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c3_i32_783 : BitVec 32 := 3#32
  let v1814 : BitVec 1 := Scalar.cmpi .sgt v3 c3_i32_783
  let c3_i32_787 : BitVec 32 := 3#32
  let c19_i32_786 : BitVec 32 := 19#32
  let v1816 : BitVec 32 := Scalar.subi c19_i32_786 v3
  let v1817 : BitVec 32 := Scalar.select v1814 c3_i32_787 v1816
  let c256_i32_788 : BitVec 32 := 256#32
  let v1818 : BitVec 32 := Scalar.muli v1817 c256_i32_788
  v1818
def k1_mult47 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c8_i32_797 : BitVec 32 := 8#32
  let v1842 : BitVec 1 := Scalar.cmpi .sgt v1 c8_i32_797
  let c8_i32_801 : BitVec 32 := 8#32
  let c24_i32_800 : BitVec 32 := 24#32
  let v1844 : BitVec 32 := Scalar.subi c24_i32_800 v1
  let v1845 : BitVec 32 := Scalar.select v1842 c8_i32_801 v1844
  let c256_i32_802 : BitVec 32 := 256#32
  let v1846 : BitVec 32 := Scalar.muli v1845 c256_i32_802
  v1846
def k1_mult48 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c9_i32_811 : BitVec 32 := 9#32
  let v1870 : BitVec 1 := Scalar.cmpi .sgt v1 c9_i32_811
  let c9_i32_815 : BitVec 32 := 9#32
  let c25_i32_814 : BitVec 32 := 25#32
  let v1872 : BitVec 32 := Scalar.subi c25_i32_814 v1
  let v1873 : BitVec 32 := Scalar.select v1870 c9_i32_815 v1872
  let c256_i32_816 : BitVec 32 := 256#32
  let v1874 : BitVec 32 := Scalar.muli v1873 c256_i32_816
  v1874
def k1_mult49 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32_825 : BitVec 32 := 10#32
  let v1898 : BitVec 1 := Scalar.cmpi .sgt v1 c10_i32_825
  let c10_i32_829 : BitVec 32 := 10#32
  let c26_i32_828 : BitVec 32 := 26#32
  let v1900 : BitVec 32 := Scalar.subi c26_i32_828 v1
  let v1901 : BitVec 32 := Scalar.select v1898 c10_i32_829 v1900
  let c256_i32_830 : BitVec 32 := 256#32
  let v1902 : BitVec 32 := Scalar.muli v1901 c256_i32_830
  v1902
def k1_mult50 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c11_i32_839 : BitVec 32 := 11#32
  let v1926 : BitVec 1 := Scalar.cmpi .sgt v1 c11_i32_839
  let c11_i32_843 : BitVec 32 := 11#32
  let c27_i32_842 : BitVec 32 := 27#32
  let v1928 : BitVec 32 := Scalar.subi c27_i32_842 v1
  let v1929 : BitVec 32 := Scalar.select v1926 c11_i32_843 v1928
  let c256_i32_844 : BitVec 32 := 256#32
  let v1930 : BitVec 32 := Scalar.muli v1929 c256_i32_844
  v1930
def k1_mult51 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c4_i32_853 : BitVec 32 := 4#32
  let v1954 : BitVec 1 := Scalar.cmpi .sgt v3 c4_i32_853
  let c4_i32_857 : BitVec 32 := 4#32
  let c20_i32_856 : BitVec 32 := 20#32
  let v1956 : BitVec 32 := Scalar.subi c20_i32_856 v3
  let v1957 : BitVec 32 := Scalar.select v1954 c4_i32_857 v1956
  let c256_i32_858 : BitVec 32 := 256#32
  let v1958 : BitVec 32 := Scalar.muli v1957 c256_i32_858
  v1958
def k1_mult52 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c5_i32_867 : BitVec 32 := 5#32
  let v1982 : BitVec 1 := Scalar.cmpi .sgt v3 c5_i32_867
  let c5_i32_871 : BitVec 32 := 5#32
  let c21_i32_870 : BitVec 32 := 21#32
  let v1984 : BitVec 32 := Scalar.subi c21_i32_870 v3
  let v1985 : BitVec 32 := Scalar.select v1982 c5_i32_871 v1984
  let c256_i32_872 : BitVec 32 := 256#32
  let v1986 : BitVec 32 := Scalar.muli v1985 c256_i32_872
  v1986
def k1_mult53 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c6_i32_881 : BitVec 32 := 6#32
  let v2010 : BitVec 1 := Scalar.cmpi .sgt v3 c6_i32_881
  let c6_i32_885 : BitVec 32 := 6#32
  let c22_i32_884 : BitVec 32 := 22#32
  let v2012 : BitVec 32 := Scalar.subi c22_i32_884 v3
  let v2013 : BitVec 32 := Scalar.select v2010 c6_i32_885 v2012
  let c256_i32_886 : BitVec 32 := 256#32
  let v2014 : BitVec 32 := Scalar.muli v2013 c256_i32_886
  v2014
def k1_mult54 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c7_i32_895 : BitVec 32 := 7#32
  let v2038 : BitVec 1 := Scalar.cmpi .sgt v3 c7_i32_895
  let c7_i32_899 : BitVec 32 := 7#32
  let c23_i32_898 : BitVec 32 := 23#32
  let v2040 : BitVec 32 := Scalar.subi c23_i32_898 v3
  let v2041 : BitVec 32 := Scalar.select v2038 c7_i32_899 v2040
  let c256_i32_900 : BitVec 32 := 256#32
  let v2042 : BitVec 32 := Scalar.muli v2041 c256_i32_900
  v2042
def k1_mult55 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c12_i32_909 : BitVec 32 := 12#32
  let v2066 : BitVec 1 := Scalar.cmpi .sgt v1 c12_i32_909
  let c12_i32_913 : BitVec 32 := 12#32
  let c28_i32_912 : BitVec 32 := 28#32
  let v2068 : BitVec 32 := Scalar.subi c28_i32_912 v1
  let v2069 : BitVec 32 := Scalar.select v2066 c12_i32_913 v2068
  let c256_i32_914 : BitVec 32 := 256#32
  let v2070 : BitVec 32 := Scalar.muli v2069 c256_i32_914
  v2070
def k1_mult56 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c13_i32_923 : BitVec 32 := 13#32
  let v2094 : BitVec 1 := Scalar.cmpi .sgt v1 c13_i32_923
  let c13_i32_927 : BitVec 32 := 13#32
  let c29_i32_926 : BitVec 32 := 29#32
  let v2096 : BitVec 32 := Scalar.subi c29_i32_926 v1
  let v2097 : BitVec 32 := Scalar.select v2094 c13_i32_927 v2096
  let c256_i32_928 : BitVec 32 := 256#32
  let v2098 : BitVec 32 := Scalar.muli v2097 c256_i32_928
  v2098
def k1_mult57 (i : grid1.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c14_i32_937 : BitVec 32 := 14#32
  let v2122 : BitVec 1 := Scalar.cmpi .sgt v1 c14_i32_937
  let c14_i32_941 : BitVec 32 := 14#32
  let c30_i32_940 : BitVec 32 := 30#32
  let v2124 : BitVec 32 := Scalar.subi c30_i32_940 v1
  let v2125 : BitVec 32 := Scalar.select v2122 c14_i32_941 v2124
  let c256_i32_942 : BitVec 32 := 256#32
  let v2126 : BitVec 32 := Scalar.muli v2125 c256_i32_942
  v2126
def k1_mult58 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c8_i32_961 : BitVec 32 := 8#32
  let v2176 : BitVec 1 := Scalar.cmpi .sgt v3 c8_i32_961
  let c8_i32_965 : BitVec 32 := 8#32
  let c24_i32_964 : BitVec 32 := 24#32
  let v2178 : BitVec 32 := Scalar.subi c24_i32_964 v3
  let v2179 : BitVec 32 := Scalar.select v2176 c8_i32_965 v2178
  let c256_i32_966 : BitVec 32 := 256#32
  let v2180 : BitVec 32 := Scalar.muli v2179 c256_i32_966
  v2180
def k1_mult59 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c9_i32_975 : BitVec 32 := 9#32
  let v2204 : BitVec 1 := Scalar.cmpi .sgt v3 c9_i32_975
  let c9_i32_979 : BitVec 32 := 9#32
  let c25_i32_978 : BitVec 32 := 25#32
  let v2206 : BitVec 32 := Scalar.subi c25_i32_978 v3
  let v2207 : BitVec 32 := Scalar.select v2204 c9_i32_979 v2206
  let c256_i32_980 : BitVec 32 := 256#32
  let v2208 : BitVec 32 := Scalar.muli v2207 c256_i32_980
  v2208
def k1_mult60 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c10_i32_989 : BitVec 32 := 10#32
  let v2232 : BitVec 1 := Scalar.cmpi .sgt v3 c10_i32_989
  let c10_i32_993 : BitVec 32 := 10#32
  let c26_i32_992 : BitVec 32 := 26#32
  let v2234 : BitVec 32 := Scalar.subi c26_i32_992 v3
  let v2235 : BitVec 32 := Scalar.select v2232 c10_i32_993 v2234
  let c256_i32_994 : BitVec 32 := 256#32
  let v2236 : BitVec 32 := Scalar.muli v2235 c256_i32_994
  v2236
def k1_mult61 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c11_i32_1003 : BitVec 32 := 11#32
  let v2260 : BitVec 1 := Scalar.cmpi .sgt v3 c11_i32_1003
  let c11_i32_1007 : BitVec 32 := 11#32
  let c27_i32_1006 : BitVec 32 := 27#32
  let v2262 : BitVec 32 := Scalar.subi c27_i32_1006 v3
  let v2263 : BitVec 32 := Scalar.select v2260 c11_i32_1007 v2262
  let c256_i32_1008 : BitVec 32 := 256#32
  let v2264 : BitVec 32 := Scalar.muli v2263 c256_i32_1008
  v2264
def k1_mult62 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c12_i32_1017 : BitVec 32 := 12#32
  let v2288 : BitVec 1 := Scalar.cmpi .sgt v3 c12_i32_1017
  let c12_i32_1021 : BitVec 32 := 12#32
  let c28_i32_1020 : BitVec 32 := 28#32
  let v2290 : BitVec 32 := Scalar.subi c28_i32_1020 v3
  let v2291 : BitVec 32 := Scalar.select v2288 c12_i32_1021 v2290
  let c256_i32_1022 : BitVec 32 := 256#32
  let v2292 : BitVec 32 := Scalar.muli v2291 c256_i32_1022
  v2292
def k1_mult63 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c13_i32_1031 : BitVec 32 := 13#32
  let v2316 : BitVec 1 := Scalar.cmpi .sgt v3 c13_i32_1031
  let c13_i32_1035 : BitVec 32 := 13#32
  let c29_i32_1034 : BitVec 32 := 29#32
  let v2318 : BitVec 32 := Scalar.subi c29_i32_1034 v3
  let v2319 : BitVec 32 := Scalar.select v2316 c13_i32_1035 v2318
  let c256_i32_1036 : BitVec 32 := 256#32
  let v2320 : BitVec 32 := Scalar.muli v2319 c256_i32_1036
  v2320
def k1_mult64 (i : grid1.Coords) : BitVec 32 :=
  let c2_i32_0 : BitVec 32 := 2#32
  let arg1 : BitVec 32 := BitVec.ofNat 32 (i 1).val
  let v2 : BitVec 32 := Scalar.muli c2_i32_0 arg1
  let c1_i32 : BitVec 32 := 1#32
  let v3 : BitVec 32 := Scalar.addi v2 c1_i32
  let c14_i32_1045 : BitVec 32 := 14#32
  let v2344 : BitVec 1 := Scalar.cmpi .sgt v3 c14_i32_1045
  let c14_i32_1049 : BitVec 32 := 14#32
  let c30_i32_1048 : BitVec 32 := 30#32
  let v2346 : BitVec 32 := Scalar.subi c30_i32_1048 v3
  let v2347 : BitVec 32 := Scalar.select v2344 c14_i32_1049 v2346
  let c256_i32_1050 : BitVec 32 := 256#32
  let v2348 : BitVec 32 := Scalar.muli v2347 c256_i32_1050
  v2348
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c96_i32 : BitVec 32 := 96#32
  let v1 : BitVec 32 := Scalar.addi c96_i32 arg0
  let c0_i32 : BitVec 32 := 0#32
  ![v0.toNat, v1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8192x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8192x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== Kernel6Ideal.lean ====
variable {F : FTy → Type} [FloatOps F] [Named F]
def κ : String → Option EReal := fun
  | "mask" => some ⊥
  | "s" => some (((Real.log 2)⁻¹ * (Real.sqrt 128)⁻¹ : ℝ) : EReal)
  | _ => none
-- ==== Kernel8.lean ====
abbrev S8192x16384 : Shape := ⟨2, ![8192, 16384]⟩
abbrev S128 : Shape := ⟨1, ![128]⟩
abbrev S1x128 : Shape := ⟨2, ![1, 128]⟩
abbrev S8192x4096 : Shape := ⟨2, ![8192, 4096]⟩
abbrev S8192x8192 : Shape := ⟨2, ![8192, 8192]⟩
abbrev S32x4096 : Shape := ⟨2, ![32, 4096]⟩
abbrev S256x4096 : Shape := ⟨2, ![256, 4096]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S1x4096 : Shape := ⟨2, ![1, 4096]⟩

abbrev nBuf : Space → Nat
  | .hbm => 9
  | .vmem => 15
  | .smem => 0
  | _ => 0

abbrev bufTy : (tb : Table) → Fin (tcTables nBuf tb) → BufTy
  | .hbm, ⟨0, _⟩ => ⟨S8192x16384, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x4096, .bf16⟩
  | .hbm, ⟨6, _⟩ => ⟨S8192x8192, .bf16⟩
  | .hbm, ⟨7, _⟩ => ⟨S8192x8192, .bf16⟩
  | .hbm, ⟨8, _⟩ => ⟨S32x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x128, .f32⟩
  | .local _ .vmem, ⟨7, _⟩ => ⟨S1x128, .f32⟩
  | .local _ .vmem, ⟨8, _⟩ => ⟨S256x4096, .bf16⟩
  | .local _ .vmem, ⟨9, _⟩ => ⟨S256x4096, .bf16⟩
  | .local _ .vmem, ⟨10, _⟩ => ⟨S256x8192, .bf16⟩
  | .local _ .vmem, ⟨11, _⟩ => ⟨S256x8192, .bf16⟩
  | .local _ .vmem, ⟨12, _⟩ => ⟨S256x8192, .bf16⟩
  | .local _ .vmem, ⟨13, _⟩ => ⟨S256x8192, .bf16⟩
  | .local _ .vmem, ⟨14, _⟩ => ⟨S32x4096, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x16384 : Shape := ⟨2, ![8192, 16384]⟩
abbrev S128 : Shape := ⟨1, ![128]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x1x128 : Shape := ⟨3, ![1, 1, 128]⟩
abbrev S32x256x32x128 : Shape := ⟨4, ![32, 256, 32, 128]⟩
abbrev S32x32x128 : Shape := ⟨3, ![32, 32, 128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x32x256 : Shape := ⟨3, ![8192, 32, 256]⟩
abbrev S8192x8192 : Shape := ⟨2, ![8192, 8192]⟩
abbrev S32x4096 : Shape := ⟨2, ![32, 4096]⟩

abbrev nBuf : Space → Nat
  | .hbm => 90
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S128, .f32⟩
  | .hbm, ⟨2, _⟩ => ⟨S128, .f32⟩
  | .hbm, ⟨3, _⟩ => ⟨S8192x16384, .f32⟩
  | .hbm, ⟨4, _⟩ => ⟨S8192x4096, .f32⟩
  | .hbm, ⟨5, _⟩ => ⟨S8192x32x128, .f32⟩
  | .hbm, ⟨6, _⟩ => ⟨S8192x32x128, .f32⟩
  | .hbm, ⟨7, _⟩ => ⟨S_, .f32⟩
  | .hbm, ⟨8, _⟩ => ⟨S8192x32, .f32⟩
  | .hbm, ⟨9, _⟩ => ⟨S8192x32x1, .f32⟩
  | .hbm, ⟨10, _⟩ => ⟨S_, .f32⟩
  | .hbm, ⟨11, _⟩ => ⟨S8192x32x1, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S8192x32x1, .f32⟩
  | .hbm, ⟨17, _⟩ => ⟨S8192x32x128, .f32⟩
  | .hbm, ⟨18, _⟩ => ⟨S8192x32x128, .f32⟩
  | .hbm, ⟨19, _⟩ => ⟨S1x1x128, .f32⟩
  | .hbm, ⟨20, _⟩ => ⟨S8192x32x128, .f32⟩
  | .hbm, ⟨21, _⟩ => ⟨S8192x32x128, .f32⟩
  | .hbm, ⟨22, _⟩ => ⟨S8192x4096, .f32⟩
  | .hbm, ⟨23, _⟩ => ⟨S8192x32x128, .f32⟩
  | .hbm, ⟨24, _⟩ => ⟨S8192x32x128, .f32⟩
  | .hbm, ⟨25, _⟩ => ⟨S_, .f32⟩
  | .hbm, ⟨26, _⟩ => ⟨S8192x32, .f32⟩
  | .hbm, ⟨27, _⟩ => ⟨S8192x32x1, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S_, .f32⟩
  | .hbm, ⟨32, _⟩ => ⟨S8192x32x1, .f32⟩
  | .hbm, ⟨33, _⟩ => ⟨S8192x32x1, .f32⟩
  | .hbm, ⟨34, _⟩ => ⟨S8192x32x1, .f32⟩
  | .hbm, ⟨35, _⟩ => ⟨S8192x32x128, .f32⟩
  | .hbm, ⟨36, _⟩ => ⟨S8192x32x128, .f32⟩
  | .hbm, ⟨37, _⟩ => ⟨S1x1x128, .f32⟩
  | .hbm, ⟨38, _⟩ => ⟨S8192x32x128, .f32⟩
  | .hbm, ⟨39, _⟩ => ⟨S8192x32x128, .f32⟩
  | .hbm, ⟨40, _⟩ => ⟨S8192x4096, .f32⟩
  | .hbm, ⟨41, _⟩ => ⟨S8192x32x128, .f32⟩
  | .hbm, ⟨42, _⟩ => ⟨S32x256x32x128, .f32⟩
  | .hbm, ⟨43, _⟩ => ⟨S_, .f32⟩
  | .hbm, ⟨44, _⟩ => ⟨S32x32x128, .f32⟩
  | .hbm, ⟨45, _⟩ => ⟨S_, .f32⟩
  | .hbm, ⟨46, _⟩ => ⟨S32x32x128, .f32⟩
  | .hbm, ⟨47, _⟩ => ⟨S32x32x128, .f32⟩
  | .hbm, ⟨48, _⟩ => ⟨S8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S128, .i32⟩
  | .hbm, ⟨69, _⟩ => ⟨S1x128, .i32⟩
  | .hbm, ⟨70, _⟩ => ⟨S8192x128, .i32⟩
  | .hbm, ⟨71, _⟩ => ⟨S8192x128, .i32⟩
  | .hbm, ⟨72, _⟩ => ⟨S8192x128, .i1⟩
  | .hbm, ⟨73, _⟩ => ⟨S8192x128, .f32⟩
  | .hbm, ⟨74, _⟩ => ⟨S8192x1x128, .f32⟩
  | .hbm, ⟨75, _⟩ => ⟨S8192x32x128, .f32⟩
  | .hbm, ⟨76, _⟩ => ⟨S_, .f32⟩
  | .hbm, ⟨77, _⟩ => ⟨S8192x32x128, .f32⟩
  | .hbm, ⟨78, _⟩ => ⟨S8192x32x128, .f32⟩
  | .hbm, ⟨79, _⟩ => ⟨S8192x4096, .f32⟩
  | .hbm, ⟨80, _⟩ => ⟨S8192x32x256, .f32⟩
  | .hbm, ⟨81, _⟩ => ⟨S8192x8192, .f32⟩
  | .hbm, ⟨82, _⟩ => ⟨S_, .f32⟩
  | .hbm, ⟨83, _⟩ => ⟨S8192x32x128, .f32⟩
  | .hbm, ⟨84, _⟩ => ⟨S8192x32x256, .f32⟩
  | .hbm, ⟨85, _⟩ => ⟨S8192x8192, .f32⟩
  | .hbm, ⟨86, _⟩ => ⟨S8192x4096, .bf16⟩
  | .hbm, ⟨87, _⟩ => ⟨S8192x8192, .bf16⟩
  | .hbm, ⟨88, _⟩ => ⟨S8192x8192, .bf16⟩
  | .hbm, ⟨89, _⟩ => ⟨S32x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel9.lean ====
abbrev S8192x18432 : Shape := ⟨2, ![8192, 18432]⟩
abbrev S8192x128 : Shape := ⟨2, ![8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S8192x8x16 : Shape := ⟨3, ![8192, 8, 16]⟩
abbrev S8x8192x16 : Shape := ⟨3, ![8, 8192, 16]⟩
abbrev S8x8192x48 : Shape := ⟨3, ![8, 8192, 48]⟩
abbrev S8x16x8192 : Shape := ⟨3, ![8, 16, 8192]⟩
abbrev S8x1x1x16 : Shape := ⟨4, ![8, 1, 1, 16]⟩
abbrev S8x1x1x48 : Shape := ⟨4, ![8, 1, 1, 48]⟩
abbrev S8x1x16x1 : Shape := ⟨4, ![8, 1, 16, 1]⟩
abbrev S128x64 : Shape := ⟨2, ![128, 64]⟩
abbrev S8x1x1024 : Shape := ⟨3, ![8, 1, 1024]⟩
abbrev S1x10240 : Shape := ⟨2, ![1, 10240]⟩
abbrev S4x8192 : Shape := ⟨2, ![4, 8192]⟩
abbrev S4x8x1024 : Shape := ⟨3, ![4, 8, 1024]⟩
abbrev S8x4x1024 : Shape := ⟨3, ![8, 4, 1024]⟩
abbrev S1x8192 : Shape := ⟨2, ![1, 8192]⟩
abbrev S1x8x1024 : Shape := ⟨3, ![1, 8, 1024]⟩
abbrev S4x1024 : Shape := ⟨2, ![4, 1024]⟩
abbrev S4x8x128 : Shape := ⟨3, ![4, 8, 128]⟩
abbrev S8x4x128 : Shape := ⟨3, ![8, 4, 128]⟩
abbrev S1x1024 : Shape := ⟨2, ![1, 1024]⟩
abbrev S1x8x128 : Shape := ⟨3, ![1, 8, 128]⟩
abbrev S8x1x128 : Shape := ⟨3, ![8, 1, 128]⟩
abbrev S1024 : Shape := ⟨1, ![1024]⟩
abbrev S_ : Shape := ⟨0, ![]⟩
abbrev S16 : Shape := ⟨1, ![16]⟩
abbrev S16x1 : Shape := ⟨2, ![16, 1]⟩
abbrev S16x1024 : Shape := ⟨2, ![16, 1024]⟩
abbrev S48x1024 : Shape := ⟨2, ![48, 1024]⟩
abbrev S8192x8192 : Shape := ⟨2, ![8192, 8192]⟩
abbrev S128x1024 : Shape := ⟨2, ![128, 1024]⟩
abbrev S128x128 : Shape := ⟨2, ![128, 128]⟩
abbrev S1x128x48 : Shape := ⟨3, ![1, 128, 48]⟩
abbrev S1x16x128 : Shape := ⟨3, ![1, 16, 128]⟩
abbrev S128x2048 : Shape := ⟨2, ![128, 2048]⟩
abbrev S136x1024 : Shape := ⟨2, ![136, 1024]⟩
abbrev S136x128 : Shape := ⟨2, ![136, 128]⟩
abbrev S8x1024 : Shape := ⟨2, ![8, 1024]⟩
abbrev S8x128 : Shape := ⟨2, ![8, 128]⟩
abbrev S1x4x128 : Shape := ⟨3, ![1, 4, 128]⟩
abbrev S4x128 : Shape := ⟨2, ![4, 128]⟩
abbrev S1x1x128 : Shape := ⟨3, ![1, 1, 128]⟩
abbrev S1x128 : Shape := ⟨2, ![1, 128]⟩
abbrev S128x48 : Shape := ⟨2, ![128, 48]⟩
abbrev S1x1x1x48 : Shape := ⟨4, ![1, 1, 1, 48]⟩
abbrev S1x1x48 : Shape := ⟨3, ![1, 1, 48]⟩
abbrev S1x48 : Shape := ⟨2, ![1, 48]⟩
abbrev S16x128 : Shape := ⟨2, ![16, 128]⟩
abbrev S1x1x16x1 : Shape := ⟨4, ![1, 1, 16, 1]⟩
abbrev S1x16x1 : Shape := ⟨3, ![1, 16, 1]⟩
abbrev S384x48 : Shape := ⟨2, ![384, 48]⟩
abbrev S128x1 : Shape := ⟨2, ![128, 1]⟩
abbrev S128x512 : Shape := ⟨2, ![128, 512]⟩
abbrev S1x4x1024 : Shape := ⟨3, ![1, 4, 1024]⟩
abbrev S4x512 : Shape := ⟨2, ![4, 512]⟩
abbrev S1x1x1024 : Shape := ⟨3, ![1, 1, 1024]⟩
abbrev S1x512 : Shape := ⟨2, ![1, 512]⟩
abbrev S8x512 : Shape := ⟨2, ![8, 512]⟩
abbrev S48x512 : Shape := ⟨2, ![48, 512]⟩
abbrev S384x512 : Shape := ⟨2, ![384, 512]⟩

abbrev nBuf : Space → Nat
  | .hbm => 70
  | .vmem => 49
  | .smem => 0
  | _ => 0

abbrev bufTy : (tb : Table) → Fin (tcTables nBuf tb) → BufTy
  | .hbm, ⟨0, _⟩ => ⟨S8192x18432, .f32⟩
  | .hbm, ⟨1, _⟩ => ⟨S8192x128, .f32⟩
  | .hbm, ⟨2, _⟩ => ⟨S4x10240, .f32⟩
  | .hbm, ⟨3, _⟩ => ⟨S10240, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S8192, .f32⟩
  | .hbm, ⟨8, _⟩ => ⟨S8192x8x16, .f32⟩
  | .hbm, ⟨9, _⟩ => ⟨S8x8192x16, .f32⟩
  | .hbm, ⟨10, _⟩ => ⟨S8x8192x48, .f32⟩
  | .hbm, ⟨11, _⟩ => ⟨S8192x8x16, .f32⟩
  | .hbm, ⟨12, _⟩ => ⟨S8x16x8192, .f32⟩
  | .hbm, ⟨13, _⟩ => ⟨S8x1x1x16, .f32⟩
  | .hbm, ⟨14, _⟩ => ⟨S8x1x1x48, .f32⟩
  | .hbm, ⟨15, _⟩ => ⟨S8x1x1x16, .f32⟩
  | .hbm, ⟨16, _⟩ => ⟨S8x1x1x48, .f32⟩
  | .hbm, ⟨17, _⟩ => ⟨S8x1x16x1, .f32⟩
  | .hbm, ⟨18, _⟩ => ⟨S8x1x16x1, .f32⟩
  | .hbm, ⟨19, _⟩ => ⟨S128x64, .f32⟩
  | .hbm, ⟨20, _⟩ => ⟨S8192, .f32⟩
  | .hbm, ⟨21, _⟩ => ⟨S8x1x1024, .f32⟩
  | .hbm, ⟨22, _⟩ => ⟨S8x1x1024, .f32⟩
  | .hbm, ⟨23, _⟩ => ⟨S1x10240, .f32⟩
  | .hbm, ⟨24, _⟩ => ⟨S4x8192, .f32⟩
  | .hbm, ⟨25, _⟩ => ⟨S4x8x1024, .f32⟩
  | .hbm, ⟨26, _⟩ => ⟨S8x4x1024, .f32⟩
  | .hbm, ⟨27, _⟩ => ⟨S1x8192, .f32⟩
  | .hbm, ⟨28, _⟩ => ⟨S1x8x1024, .f32⟩
  | .hbm, ⟨29, _⟩ => ⟨S8x1x1024, .f32⟩
  | .hbm, ⟨30, _⟩ => ⟨S4x1024, .f32⟩
  | .hbm, ⟨31, _⟩ => ⟨S4x8x128, .f32⟩
  | .hbm, ⟨32, _⟩ => ⟨S8x4x128, .f32⟩
  | .hbm, ⟨33, _⟩ => ⟨S1x1024, .f32⟩
  | .hbm, ⟨34, _⟩ => ⟨S1x8x128, .f32⟩
  | .hbm, ⟨35, _⟩ => ⟨S8x1x128, .f32⟩
  | .hbm, ⟨36, _⟩ => ⟨S4x1024, .f32⟩
  | .hbm, ⟨37, _⟩ => ⟨S4x8x128, .f32⟩
  | .hbm, ⟨38, _⟩ => ⟨S8x4x128, .f32⟩
  | .hbm, ⟨39, _⟩ => ⟨S1x1024, .f32⟩
  | .hbm, ⟨40, _⟩ => ⟨S1x8x128, .f32⟩
  | .hbm, ⟨41, _⟩ => ⟨S8x1x128, .f32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S1024, .i32⟩
  | .hbm, ⟨52, _⟩ => ⟨S1024, .i32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S1x1024, .i32⟩
  | .hbm, ⟨62, _⟩ => ⟨S16, .i32⟩
  | .hbm, ⟨63, _⟩ => ⟨S16x1, .i32⟩
  | .hbm, ⟨64, _⟩ => ⟨S16x1024, .i32⟩
  | .hbm, ⟨65, _⟩ => ⟨S16x1024, .i32⟩
  | .hbm, ⟨66, _⟩ => ⟨S16x1024, .i1⟩
  | .hbm, ⟨67, _⟩ => ⟨S16x1024, .bf16⟩
  | .hbm, ⟨68, _⟩ => ⟨S48x1024, .bf16⟩
  | .hbm, ⟨69, _⟩ => ⟨S8192x8192, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128x48, .f32⟩
  | .local _ .vmem, ⟨9, _⟩ => ⟨S1x128x48, .f32⟩
  | .local _ .vmem, ⟨10, _⟩ => ⟨S1x16x128, .f32⟩
  | .local _ .vmem, ⟨11, _⟩ => ⟨S1x16x128, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128x48, .f32⟩
  | .local _ .vmem, ⟨21, _⟩ => ⟨S1x128x48, .f32⟩
  | .local _ .vmem, ⟨22, _⟩ => ⟨S1x16x128, .f32⟩
  | .local _ .vmem, ⟨23, _⟩ => ⟨S1x16x128, .f32⟩
  | .local _ .vmem, ⟨24, _⟩ => ⟨S8x4x1024, .f32⟩
  | .local _ .vmem, ⟨25, _⟩ => ⟨S8x1x1024, .f32⟩
  | .local _ .vmem, ⟨26, _⟩ => ⟨S8x4x128, .f32⟩
  | .local _ .vmem, ⟨27, _⟩ => ⟨S8x1x128, .f32⟩
  | .local _ .vmem, ⟨28, _⟩ => ⟨S8x4x128, .f32⟩
  | .local _ .vmem, ⟨29, _⟩ => ⟨S8x1x128, .f32⟩
  | .local _ .vmem, ⟨30, _⟩ => ⟨S8x1x1x48, .f32⟩
  | .local _ .vmem, ⟨31, _⟩ => ⟨S8x1x16x1, .f32⟩
  | .local _ .vmem, ⟨32, _⟩ => ⟨S8x1x1x48, .f32⟩
  | .local _ .vmem, ⟨33, _⟩ => ⟨S8x1x16x1, .f32⟩
  | .local _ .vmem, ⟨34, _⟩ => ⟨S8x1x1024, .f32⟩
  | .local _ .vmem, ⟨35, _⟩ => ⟨S8x1x1024, .f32⟩
  | .local _ .vmem, ⟨36, _⟩ => ⟨S48x1024, .bf16⟩
  | .local _ .vmem, ⟨37, _⟩ => ⟨S128x2048, .bf16⟩
  | .local _ .vmem, ⟨38, _⟩ => ⟨S128x2048, .bf16⟩
  | .local _ .vmem, ⟨39, _⟩ => ⟨S128x1024, .f32⟩
  | .local _ .vmem, ⟨40, _⟩ => ⟨S136x1024, .f32⟩
  | .local _ .vmem, ⟨41, _⟩ => ⟨S136x128, .f32⟩
  | .local _ .vmem, ⟨42, _⟩ => ⟨S136x128, .f32⟩
  | .local _ .vmem, ⟨43, _⟩ => ⟨S128x1024, .f32⟩
  | .local _ .vmem, ⟨44, _⟩ => ⟨S128x1024, .f32⟩
  | .local _ .vmem, ⟨45, _⟩ => ⟨S136x1024, .f32⟩
  | .local _ .vmem, ⟨46, _⟩ => ⟨S136x128, .f32⟩
  | .local _ .vmem, ⟨47, _⟩ => ⟨S136x128, .f32⟩
  | .local _ .vmem, ⟨48, _⟩ => ⟨S128x1024, .f32⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg25_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_scratch7 : Ref sig .tc := ⟨.vmem, 46, rfl⟩
abbrev cc0_scratch8 : Ref sig .tc := ⟨.vmem, 47, rfl⟩
abbrev cc0_scratch9 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨2, ![4, 64], ![false, false]⟩

def k0_off1 (i : grid0.Coords) (c0_i32_1 : BitVec 32) : Fin 3 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_5 : BitVec 32 := 0#32
  let c0_i32_6 : BitVec 32 := 0#32
  ![v4.toNat, 0, 0]
def k0_off2 (i : grid0.Coords) (c0_i32_1 : BitVec 32) : Fin 3 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_9 : BitVec 32 := 0#32
  let c0_i32_10 : BitVec 32 := 0#32
  ![v4.toNat, 0, 0]
def k0_off3 (i : grid0.Coords) (c0_i32_1 : BitVec 32) : Fin 4 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_42 : BitVec 32 := 0#32
  let c0_i32_43 : BitVec 32 := 0#32
  let c0_i32_44 : BitVec 32 := 0#32
  ![v4.toNat, 0, 0, 0]
def k0_off4 (i : grid0.Coords) (c0_i32_1 : BitVec 32) : Fin 4 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_61 : BitVec 32 := 0#32
  let c0_i32_62 : BitVec 32 := 0#32
  let c0_i32_63 : BitVec 32 := 0#32
  ![v4.toNat, 0, 0, 0]
def k0_off5 (i : grid0.Coords) (c0_i32_1 : BitVec 32) : Fin 3 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_199 : BitVec 32 := 0#32
  let c0_i32_200 : BitVec 32 := 0#32
  ![v4.toNat, 0, 0]
def k0_off6 (i : grid0.Coords) (c0_i32_1 : BitVec 32) : Fin 3 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c0_i32_203 : BitVec 32 := 0#32
  let c0_i32_204 : BitVec 32 := 0#32
  ![v4.toNat, 0, 0]
def k0_off7 (i : grid0.Coords) (c0_i32_1 : BitVec 32) : Fin 3 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v1453 : Index := Scalar.indexCast v4
  let c0_533 : Index := 0#32
  let c0_534 : Index := 0#32
  ![v1453.toNat, 0, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.addi c8_i32 v1
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c128_i32 : BitVec 32 := 128#32
  let v2 : BitVec 32 := Scalar.addi c128_i32 v1
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c136_i32 : BitVec 32 := 136#32
  let v2 : BitVec 32 := Scalar.addi c136_i32 v1
  let c0_i32_0 : BitVec 32 := 0#32
  ![arg1.toNat, v2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.addi c8_i32 v1
  let c0_i32 : BitVec 32 := 0#32
  ![arg1.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c128_i32 : BitVec 32 := 128#32
  let v2 : BitVec 32 := Scalar.addi c128_i32 v1
  let c0_i32 : BitVec 32 := 0#32
  ![arg1.toNat, v2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c136_i32 : BitVec 32 := 136#32
  let v2 : BitVec 32 := Scalar.addi c136_i32 v1
  let c0_i32 : BitVec 32 := 0#32
  ![arg1.toNat, v2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x48 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x1x1x48 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x1x16x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S8x1x1x48 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S8x1x16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S8x1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S8x1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S48x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S128x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Proof.Run.lean ====
/-
  The run of the idealized pool layer, read at its result: from any memory with zero counters, every execution
  ends with `main_v8` at the last boundary's contents (`Gen.W8`, the fold of the six launches over the launch memory)
  and the arguments unchanged.
-/
module

public import proofs.«01_k».proof.Proof.Gen.KernelIdeal.Frame

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the layer ends with each of the TensorCore's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- The same, at the result and the arguments. -/
theorem run : θ_run defs (onTc (τ := τ) (main (F := F))) ⟨m, fun _ => 0, ρ⟩ (fun r => ∀ c : Dev nD,
      r.2.mem ((c.tc : Thread nD τ).loc main_v8) = W8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨h c _ (mem_uc main_v8 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩) (run_all m ρ)

end Cert.KernelIdeal.Layer

end
-- ==== Proof.Proj.lean ====
/-
  The two dense launches at the head of the layer, over the extended reals, each from its operand arrays:
  the normalised activations, and their product with the input weights.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- RMS normalisation of the rows of `x`, scaled by the row `g`. -/
def rms (x : FVec Ideal S8192x4096 .f32) (g : FVec Ideal S1x4096 .f32) : FVec Ideal S8192x4096 .bf16 := fun i =>
  x i * Ideal.rsqrt (Ideal.div (∑ k : Fin 4096, x (ix2 (i 0) k) * x (ix2 (i 0) k)) (Ideal.ofBits .f32 0x45800000#32)
    + Ideal.ofBits .f32 0x358637BD#32) * g (ix2 0 (i 1))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y) :
    k0_pay1 (F := Ideal) (iblk0 V c 0 t) (iblk0 V c 1 t) y
      = rms (V c main_arg0) (V c main_v0) (((cfg0.win 2).blk t).view.emb y) := by
  pointwise [k0_pay1, rms]
  blk_point [iblk0, idx0 t]

/-- The first launch leaves the normalised rows. -/
theorem rms_arr (c : Dev nD) : (dat0 V c).arrAt 2 cfg0.N = rms (V c main_arg0) (V c main_v0) := by
  refine (dat0 V c).arrAt_eq_of_covers 2 _ (by decide +kernel) fun t _ y => ?_
  blk_simp
  rw [after0_2]; frame_out
  exact point0 V c t y

/-- The product of the rows of `u` with the columns of `w`. -/
def proj (u : FVec Ideal S8192x4096 .bf16) (w : FVec Ideal S4096x16384 .f32) : FVec Ideal S8192x16384 .f32 := fun i =>
  ∑ k : Fin 4096, u (ix2 (i 0) k) * w (ix2 k (i 1))

theorem idx1 : ∀ t : Fin cfg1.N, win1_0.index t = ![t.val / 32, 0] ∧ win1_1.index t = ![0, t.val % 32]
    ∧ win1_2.index t = ![t.val / 32, t.val % 32] :=
  (by decide +kernel : ∀ t : Fin grid1.N, _)

theorem point1 (c : Dev nD) (t : Fin cfg1.N) (y) :
    k1_pay1 (F := Ideal) (iblk1 V c 1 t) (iblk1 V c 0 t) y
      = proj (V c main_v1) (V c main_arg2) (((cfg1.win 2).blk t).view.emb y) := by
  pointwise [k1_pay1, proj]
  blk_point [iblk1, idx1 t]

/-- The second launch leaves that product. -/
theorem proj_arr (c : Dev nD) : (dat1 V c).arrAt 2 cfg1.N = proj (V c main_v1) (V c main_arg2) := by
  refine (dat1 V c).arrAt_eq_of_covers 2 _ (by decide +kernel) fun t _ y => ?_
  blk_simp
  rw [after1_2]; frame_out
  exact point1 V c t y

end Cert.KernelIdeal.Layer

end
-- ==== Proof.Diff.lean ====
/-
  The causal moving averages, over the extended reals. A block of rows is stacked under its halo of sixteen rows, and
  rolls by 1, 2, 4 and 8 rows, each added to what it rolled, double the window; here is what each block stores, and what
  the launch leaves in its result.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A column of a block under its halo: sixteen halo rows (zero at the first block), then the block's rows. -/
def halo (a : BitVec 32) (h : Fin 16 → EReal) (v : Fin 256 → EReal) (n : ℕ) : EReal :=
  if hn : n < 16 then Scalar.select (Scalar.cmpi .sgt a 0#32) (h ⟨n, hn⟩) 0
  else if hv : n < 272 then v ⟨n - 16, by omega⟩ else 0

/-- Adding a stack of rows to itself rolled by `m` rows doubles the window `m`. -/
theorem roll_double (m : ℕ) (n : BitVec 32) (hn : n.toNat = m) (h1 : 1 ≤ m) (h8 : m ≤ 8) (X : FVec Ideal S272x512 .f32)
    (hr : S272x512.Rotates 0 none) (e : Fin 512 → ℕ → EReal)
    (hX : ∀ (k : Fin 272) (q : Fin 512), m ≤ k.val + 1 → X (ix2 k q) = ∑ s ∈ Finset.range m, e q (k.val - s)) :
    ∀ (k : Fin 272) (q : Fin 512), m + m ≤ k.val + 1 →
      addf X (dynamicRotate 0 n none X hr) (ix2 k q) = ∑ s ∈ Finset.range (m + m), e q (k.val - s) := by
  intro k q hk
  have hk' := k.isLt
  have e1 : (dynamicRotate 0 n none X hr) (ix2 k q) = X (ix2 ⟨k.val - m, by omega⟩ q) := by
    rw [Pointwise.dynamicRotate_apply]
    refine congrArg X ?_
    funext b
    apply Fin.ext
    fin_cases b
    · simp [ix2, hn, S272x512, Shape.size, Shape.Idx.norm_def]
      have : m % 272 = m := Nat.mod_eq_of_lt (by omega)
      omega
    · simp [ix2, Shape.Idx.norm_def]
  show X (ix2 k q) + _ = _
  rw [e1, hX k q (by omega), hX ⟨k.val - m, by omega⟩ q (by simp only; omega), Finset.sum_range_add]
  congr 1
  refine Finset.sum_congr rfl fun s _ => ?_
  simp only
  rw [Nat.sub_sub]

/-- The stack itself. -/
theorem stack_at (a : BitVec 32) (v : FVec Ideal S256x512 .f32) (h : FVec Ideal S16x512 .f32) (k : Fin 272) (q : Fin 512) :
    concatenate S272x512 0 [⟨S16x512, (Scalar.select (Scalar.cmpi .sgt a 0#32)
        (shapeCast S16x512 h shapeCasts_S16x512_S16x512) (broadcast S16x512 (Scalar.ofBits (F := Ideal) .f32 0x00000000#32))
          : FVec Ideal S16x512 .f32)⟩,
        ⟨S256x512, (shapeCast S256x512 v shapeCasts_S256x512_S256x512 : FVec Ideal S256x512 .f32)⟩]
        concatenates_S16x512_S256x512_S272x512_d0 (ix2 k q)
      = ∑ s ∈ Finset.range 1, halo a (fun r => h (ix2 r q)) (fun r => v (ix2 r q)) (k.val - s) := by
  rw [Finset.sum_range_one, Nat.sub_zero]
  have hk := k.isLt
  by_cases hk16 : k.val < 16
  · pointwise [halo, hk16]
  · pointwise [halo, hk16, hk]

variable (a : BitVec 32) (inv : FVec Ideal S256x512 .f32) (v : FVec Ideal S256x512 .f32) (h : FVec Ideal S16x512 .f32)
  (x : S256x512.Idx) (d : EReal)

/-- What a strip of columns stores, from its window sums. -/
def avgStrip (w : ℕ) : EReal :=
  (∑ s ∈ Finset.range w, halo a (fun r => h (ix2 r (x 1))) (fun r => v (ix2 r (x 1))) (16 + (x 0).val - s)) * d
    - v (ix2 (x 0) (x 1))

theorem strip_of (w : ℕ) (hw : w ≤ 16) (X : FVec Ideal S272x512 .f32) (hd : inv x = d)
    (hX : ∀ (k : Fin 272) (q : Fin 512), w ≤ k.val + 1 →
      X (ix2 k q) = ∑ s ∈ Finset.range w, halo a (fun r => h (ix2 r q)) (fun r => v (ix2 r q)) (k.val - s)) :
    truncf .bf16 (subf (mulf (extractStridedSlice S256x512 ![16, 0] X slices_S272x512_o16_0_S256x512) inv)
      (shapeCast S256x512 v shapeCasts_S256x512_S256x512)) bitsLt_bf16_f32 x = avgStrip a v h x d w := by
  have e := hX ⟨16 + (x 0).val, by have := (x 0).isLt; change _ < 256 at this; omega⟩ (x 1) (by simp only; omega)
  subst hd
  simp only at e
  pointwise [avgStrip]
  rw [← e]

theorem strip2 (hd : inv x = d) : k2_pay8 (F := Ideal) a inv v h x = avgStrip a v h x d 2 :=
  strip_of a inv v h x d 2 (by omega) _ hd
    (roll_double 1 _ rfl (by omega) (by omega) _ _ (fun q => halo a (fun r => h (ix2 r q)) (fun r => v (ix2 r q)))
      fun k q _ => stack_at a v h k q)

theorem strip4 (hd : inv x = d) : k2_pay14 (F := Ideal) a inv v h x = avgStrip a v h x d 4 :=
  strip_of a inv v h x d 4 (by omega) _ hd
    (roll_double 2 _ rfl (by omega) (by omega) _ _ (fun q => halo a (fun r => h (ix2 r q)) (fun r => v (ix2 r q)))
    (roll_double 1 _ rfl (by omega) (by omega) _ _ (fun q => halo a (fun r => h (ix2 r q)) (fun r => v (ix2 r q)))
      fun k q _ => stack_at a v h k q))

theorem strip8 (hd : inv x = d) : k2_pay22 (F := Ideal) a inv v h x = avgStrip a v h x d 8 :=
  strip_of a inv v h x d 8 (by omega) _ hd
    (roll_double 4 _ rfl (by omega) (by omega) _ _ (fun q => halo a (fun r => h (ix2 r q)) (fun r => v (ix2 r q)))
    (roll_double 2 _ rfl (by omega) (by omega) _ _ (fun q => halo a (fun r => h (ix2 r q)) (fun r => v (ix2 r q)))
    (roll_double 1 _ rfl (by omega) (by omega) _ _ (fun q => halo a (fun r => h (ix2 r q)) (fun r => v (ix2 r q)))
      fun k q _ => stack_at a v h k q)))

theorem strip16 (hd : inv x = d) : k2_pay1 (F := Ideal) a inv v h x = avgStrip a v h x d 16 :=
  strip_of a inv v h x d 16 (by omega) _ hd
    (roll_double 8 _ rfl (by omega) (by omega) _ _ (fun q => halo a (fun r => h (ix2 r q)) (fun r => v (ix2 r q)))
    (roll_double 4 _ rfl (by omega) (by omega) _ _ (fun q => halo a (fun r => h (ix2 r q)) (fun r => v (ix2 r q)))
    (roll_double 2 _ rfl (by omega) (by omega) _ _ (fun q => halo a (fun r => h (ix2 r q)) (fun r => v (ix2 r q)))
    (roll_double 1 _ rfl (by omega) (by omega) _ _ (fun q => halo a (fun r => h (ix2 r q)) (fun r => v (ix2 r q)))
      fun k q _ => stack_at a v h k q))))

/-- The reciprocal of the number of rows in a window of `w` rows that ends at row `n`. -/
def recip (w n : ℕ) : EReal := Ideal.div 1 (((min (n + 1) w : ℕ) : ℝ) : EReal)

theorem minsi_small (n : ℕ) (hn : n < 2 ^ 31) (w : BitVec 32) (hw : w.toNat ≤ 16) :
    (IntOp.minsi (BitVec.ofNat 32 n) w).toInt = ((min n w.toNat : ℕ) : ℤ) := by
  have e1 : (BitVec.ofNat 32 n).toInt = n := by
    rw [BitVec.toInt_eq_toNat_of_lt] <;> simp [BitVec.toNat_ofNat] <;> omega
  have e2 : w.toInt = w.toNat := BitVec.toInt_eq_toNat_of_lt (by omega)
  unfold IntOp.minsi
  split_ifs with hs
  · rw [BitVec.slt_iff_toInt_lt, e1, e2] at hs
    rw [e1]; omega
  · rw [BitVec.slt_iff_toInt_lt, e1, e2] at hs
    rw [e2]; omega

theorem recip_of (i : grid2.Coords) (w : BitVec 32) (hw : w.toNat ≤ 16) (x : S256x512.Idx) :
    divf (broadcast S256x512 (Scalar.ofBits (F := Ideal) .f32 0x3F800000#32))
      (sitofp .f32 (minsi (addi (k2_pay2 i) (broadcast S256x512 1#32)) (broadcast S256x512 w))) x
      = recip w.toNat (256 * (i 0).val + (x 0).val) := by
  have hx := (x 0).isLt
  have hi := (i 0).isLt
  change _ < 256 at hx
  change _ < 32 at hi
  have e : addi (k2_pay2 i) (broadcast S256x512 1#32) x = BitVec.ofNat 32 (256 * (i 0).val + (x 0).val + 1) := by
    pointwise [k2_pay2]
    show BitVec.ofNat 32 (i 0).val * 256#32 + BitVec.ofNat 32 (x 0).val + 1#32 = _
    apply BitVec.eq_of_toNat_eq
    simp only [BitVec.toNat_add, BitVec.toNat_mul, BitVec.toNat_ofNat]
    omega
  have e' := minsi_small (256 * (i 0).val + (x 0).val + 1) (by omega) w hw
  show Ideal.div _ (((IntOp.minsi (addi (k2_pay2 i) (broadcast S256x512 1#32) x) w).toInt : ℝ) : EReal) = _
  rw [e, e', recip, Int.cast_natCast]
  pointwise

theorem recip2 (i : grid2.Coords) (x : S256x512.Idx) :
    k2_pay3 (F := Ideal) i x = recip 2 (256 * (i 0).val + (x 0).val) := recip_of i 2#32 (by decide) x

theorem recip4 (i : grid2.Coords) (x : S256x512.Idx) :
    k2_pay11 (F := Ideal) (k2_pay10 (k2_pay2 i)) 4#32 x = recip 4 (256 * (i 0).val + (x 0).val) :=
  recip_of i 4#32 (by decide) x

theorem recip8 (i : grid2.Coords) (x : S256x512.Idx) :
    k2_pay17 (F := Ideal) (k2_pay2 i) k2_pay16 x = recip 8 (256 * (i 0).val + (x 0).val) :=
  recip_of i 8#32 (by decide) x

theorem recip16 (i : grid2.Coords) (x : S256x512.Idx) :
    k2_pay27 (F := Ideal) (k2_pay2 i) x = recip 16 (256 * (i 0).val + (x 0).val) :=
  recip_of i 16#32 (by decide) x

/-- What a block stores at row `r` and column `q`. -/
def avgBlk (i : grid2.Coords) (x0 : FVec Ideal S256x8192 .f32) (x1 : FVec Ideal S16x8192 .f32) (j : S256x8192.Idx) : EReal :=
  (∑ s ∈ Finset.range (2 ^ ((j 1).val / 2048 + 1)), halo (BitVec.ofNat 32 (i 0).val) (fun r => x1 (ix2 r (j 1)))
      (fun r => x0 (ix2 r (j 1))) (16 + (j 0).val - s)) * recip (2 ^ ((j 1).val / 2048 + 1)) (256 * (i 0).val + (j 0).val)
    - x0 (ix2 (j 0) (j 1))

theorem avgBlk_eq (i : grid2.Coords) (x0 : FVec Ideal S256x8192 .f32) (x1 : FVec Ideal S16x8192 .f32) (j : S256x8192.Idx)
    (w : ℕ) (hw : 2 ^ ((j 1).val / 2048 + 1) = w) (v : FVec Ideal S256x512 .f32) (h : FVec Ideal S16x512 .f32)
    (x : S256x512.Idx) (hv : ∀ r, v (ix2 r (x 1)) = x0 (ix2 r (j 1))) (hh : ∀ r, h (ix2 r (x 1)) = x1 (ix2 r (j 1)))
    (h0 : (j 0).val = (x 0).val) :
    avgStrip (BitVec.ofNat 32 (i 0).val) v h x (recip w (256 * (i 0).val + (x 0).val)) w = avgBlk i x0 x1 j := by
  have e0 : j 0 = x 0 := Fin.ext h0
  simp only [avgStrip, avgBlk, hw, hv, hh, h0]
  rw [e0]
  exact congrArg _ (hv (x 0))

theorem out2_blk (i : grid2.Coords) (x0 : FVec Ideal S256x8192 .f32) (x1 : FVec Ideal S16x8192 .f32) (j) :
    out2_2 (F := Ideal) i x0 x1 j = avgBlk i x0 x1 j := by
  unfold out2_2
  canon_tiles x h
  iterate 4
    · refine (strip16 _ _ _ _ _ _ (recip16 i x)).trans (avgBlk_eq i x0 x1 j 16 ?_ _ _ x (fun r => ?_) (fun r => ?_) (by omega))
      · rw [show (j 1).val / 2048 = 3 by omega]; norm_num
      · have e1 : j 1 = ⟨_, h1 ▸ (j 1).isLt⟩ := Fin.ext h1
        rw [e1]; pointwise
      · have e1 : j 1 = ⟨_, h1 ▸ (j 1).isLt⟩ := Fin.ext h1
        rw [e1]; pointwise
  iterate 4
    · refine (strip8 _ _ _ _ _ _ (recip8 i x)).trans (avgBlk_eq i x0 x1 j 8 ?_ _ _ x (fun r => ?_) (fun r => ?_) (by omega))
      · rw [show (j 1).val / 2048 = 2 by omega]; norm_num
      · have e1 : j 1 = ⟨_, h1 ▸ (j 1).isLt⟩ := Fin.ext h1
        rw [e1]; pointwise
      · have e1 : j 1 = ⟨_, h1 ▸ (j 1).isLt⟩ := Fin.ext h1
        rw [e1]; pointwise
  iterate 4
    · refine (strip4 _ _ _ _ _ _ (recip4 i x)).trans (avgBlk_eq i x0 x1 j 4 ?_ _ _ x (fun r => ?_) (fun r => ?_) (by omega))
      · rw [show (j 1).val / 2048 = 1 by omega]; norm_num
      · have e1 : j 1 = ⟨_, h1 ▸ (j 1).isLt⟩ := Fin.ext h1
        rw [e1]; pointwise
      · have e1 : j 1 = ⟨_, h1 ▸ (j 1).isLt⟩ := Fin.ext h1
        rw [e1]; pointwise
  iterate 4
    · refine (strip2 _ _ _ _ _ _ (recip2 i x)).trans (avgBlk_eq i x0 x1 j 2 ?_ _ _ x (fun r => ?_) (fun r => ?_) (by omega))
      · rw [show (j 1).val / 2048 = 0 by omega]; norm_num
      · have e1 : j 1 = ⟨_, h1 ▸ (j 1).isLt⟩ := Fin.ext h1
        rw [e1]; pointwise
      · have e1 : j 1 = ⟨_, h1 ▸ (j 1).isLt⟩ := Fin.ext h1
        rw [e1]; pointwise

/-- The row `s` before row `n`, zero before the first. -/
def past (p : FVec Ideal S8192x16384 .f32) (n : Fin 8192) (q : Fin 16384) (s : ℕ) : EReal :=
  if s ≤ n.val then p (ix2 ⟨n.val - s, by omega⟩ q) else 0

/-- The sum of the last `w` rows of column `q` of `p` up to row `n`; rows before the first count nothing. -/
def winSum (w : ℕ) (p : FVec Ideal S8192x16384 .f32) (n : Fin 8192) (q : Fin 16384) : EReal :=
  ∑ s ∈ Finset.range w, past p n q s

/-- A column of the first half of `p`, seen as one of its own. -/
def lower (q : Fin 8192) : Fin 16384 := ⟨q.val, by omega⟩

/-- The moving averages less the values: a channel of the quarter `g` has a window of `2 ^ (g + 1)` rows. -/
def avgDiff (p : FVec Ideal S8192x16384 .f32) : FVec Ideal S8192x8192 .bf16 := fun i =>
  winSum (2 ^ ((i 1).val / 2048 + 1)) p (i 0) (lower (i 1)) * recip (2 ^ ((i 1).val / 2048 + 1)) (i 0).val
    - p (ix2 (i 0) (lower (i 1)))

theorem idx2 : ∀ t : Fin cfg2.N, win2_0.index t = ![t.val, 0] ∧ win2_1.index t = ![16 * t.val - 1, 0]
    ∧ win2_2.index t = ![t.val, 0] ∧ (grid2.coords t 0).val = t.val
    ∧ Scalar.cmpi .sgt (BitVec.ofNat 32 t.val) 0#32 = if t.val = 0 then 0#1 else 1#1 :=
  (by decide +kernel : ∀ t : Fin grid2.N, _)

variable (V : (c : Dev nD) → (b : Ref sig .tc) → Buf (Elt Ideal) ((c : Thread nD τ).loc b))

theorem rows2 (c : Dev nD) (t : Fin cfg2.N) (r : Fin 256) (q : Fin 8192) (ht : t.val < 32) :
    iblk2 V c 0 t (ix2 r q) = V c main_v2 (ix2 ⟨256 * t.val + r.val, by omega⟩ (lower q)) := by
  pointwise [lower]
  blk_point [iblk2, idx2 t]

theorem halo2 (c : Dev nD) (t : Fin cfg2.N) (r : Fin 16) (q : Fin 8192) (ht : t.val < 32) :
    iblk2 V c 1 t (ix2 r q) = V c main_v2 (ix2 ⟨16 * (16 * t.val - 1) + r.val, by omega⟩ (lower q)) := by
  pointwise [lower]
  blk_point [iblk2, idx2 t]

theorem halo_at (c : Dev nD) (t : Fin cfg2.N) (ht : t.val < 32) (r : Fin 256) (q : Fin 8192) (s : ℕ) (hs : s < 16) :
    halo (BitVec.ofNat 32 t.val) (fun r => iblk2 V c 1 t (ix2 r q)) (fun r => iblk2 V c 0 t (ix2 r q)) (16 + r.val - s)
      = past (V c main_v2) ⟨256 * t.val + r.val, by omega⟩ (lower q) s := by
  obtain ⟨-, -, -, -, hsel⟩ := idx2 t
  unfold halo past
  simp only
  by_cases h16 : 16 + r.val - s < 16
  · rw [dif_pos h16, hsel]
    by_cases h0 : t.val = 0
    · rw [if_pos h0, if_neg (by omega)]; exact ValueIdx.select_zero _ _
    · rw [if_neg h0, if_pos (by omega)]
      refine (ValueIdx.select_one _ _).trans ((halo2 V c t _ _ ht).trans ?_)
      congr 2
      apply Fin.ext
      simp only
      omega
  · rw [dif_neg h16, dif_pos (by omega), if_pos (by omega)]
    refine (rows2 V c t _ _ ht).trans ?_
    congr 2
    apply Fin.ext
    simp only
    omega

theorem winSize (q : Fin 8192) : 2 ^ (q.val / 2048 + 1) ≤ 16 := by
  have hq := q.isLt
  have : q.val / 2048 + 1 ≤ 4 := by omega
  calc 2 ^ (q.val / 2048 + 1) ≤ 2 ^ 4 := Nat.pow_le_pow_right (by omega) this
    _ = 16 := by norm_num

theorem point2 (c : Dev nD) (t : Fin cfg2.N) (ht : t.val < 32) (r : Fin 256) (q : Fin 8192) :
    avgBlk (grid2.coords t) (iblk2 V c 0 t) (iblk2 V c 1 t) (ix2 r q)
      = avgDiff (V c main_v2) (ix2 ⟨256 * t.val + r.val, by omega⟩ q) := by
  obtain ⟨-, -, -, hc, -⟩ := idx2 t
  show (∑ s ∈ Finset.range (2 ^ (q.val / 2048 + 1)), halo (BitVec.ofNat 32 (grid2.coords t 0).val)
      (fun r => iblk2 V c 1 t (ix2 r q)) (fun r => iblk2 V c 0 t (ix2 r q)) (16 + r.val - s))
      * recip (2 ^ (q.val / 2048 + 1)) (256 * (grid2.coords t 0).val + r.val) - iblk2 V c 0 t (ix2 r q)
    = winSum (2 ^ (q.val / 2048 + 1)) (V c main_v2) ⟨256 * t.val + r.val, by omega⟩ (lower q)
      * recip (2 ^ (q.val / 2048 + 1)) (256 * t.val + r.val) - V c main_v2 (ix2 ⟨256 * t.val + r.val, by omega⟩ (lower q))
  rw [hc, rows2 V c t r q ht]
  congr 2
  refine Finset.sum_congr rfl fun s hs => ?_
  exact halo_at V c t ht r q s (lt_of_lt_of_le (Finset.mem_range.mp hs) (winSize q))

/-- The launch leaves the moving averages less the values. -/
theorem avgDiff_arr (c : Dev nD) : (dat2 V c).arrAt 2 cfg2.N = avgDiff (V c main_v2) := by
  refine (dat2 V c).arrAt_eq_of_covers 2 _ (by decide +kernel) fun t _ y => ?_
  blk_simp
  rw [after2_2]
  have ht : t.val < 32 := t.isLt
  have e : ((cfg2.win 2).blk t).view.emb y = ix2 ⟨256 * t.val + (y 0).val, by have := (y 0).isLt; change _ < 256 at this; omega⟩ (y 1) := by
    blk_point [idx2 t]
  rw [e]
  refine (out2_blk _ _ _ y).trans ?_
  rw [eq_ix2 y]
  exact point2 V c t ht (y 0) (y 1)

end Cert.KernelIdeal.Layer
-- ==== Proof.Group.lean ====
/-
  The grouped channel map, over the extended reals: each group's product, its bias and the channel scales, multiplied by
  the gate `half z + half z * tanh (half z)`.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The gate, spelt by the hyperbolic tangent. -/
def gate (z : EReal) : EReal :=
  Ideal.ofBits .f32 0x3F000000#32 * z + Ideal.ofBits .f32 0x3F000000#32 * z * Ideal.tanh (Ideal.ofBits .f32 0x3F000000#32 * z)

/-- The grouped map of `d`, scaled and gated by the second half of `p`'s columns. -/
def mapped (d : FVec Ideal S8192x8192 .bf16) (w : FVec Ideal S4x2048x2048 .f32) (b : FVec Ideal S4x1x2048 .f32)
    (s : FVec Ideal S1x8192 .f32) (p : FVec Ideal S8192x16384 .f32) : FVec Ideal S8192x8192 .bf16 := fun i =>
  ((∑ k : Fin 2048, d (ix2 (i 0) ⟨2048 * ((i 1).val / 2048) + k.val, by have := (i 1).isLt; change _ < 8192 at this; omega⟩)
        * w (ix3 ⟨(i 1).val / 2048, by have := (i 1).isLt; change _ < 8192 at this; omega⟩ k ⟨(i 1).val % 2048, by omega⟩)
      + b (ix3 ⟨(i 1).val / 2048, by have := (i 1).isLt; change _ < 8192 at this; omega⟩ 0 ⟨(i 1).val % 2048, by omega⟩))
    * s (ix2 0 (i 1)))
  * gate (p (ix2 (i 0) ⟨8192 + (i 1).val, by have := (i 1).isLt; change _ < 8192 at this; omega⟩))

/-- What one block stores. -/
def mapBlk (x0 : FVec Ideal S4096x2048 .bf16) (x1 : FVec Ideal S1x2048x512 .f32) (x2 : FVec Ideal S1x1x512 .f32)
    (x3 : FVec Ideal S1x512 .f32) (x4 : FVec Ideal S4096x512 .f32) : FVec Ideal S4096x512 .bf16 := fun y =>
  ((∑ k : Fin 2048, x0 (ix2 (y 0) k) * x1 (ix3 0 k (y 1)) + x2 (ix3 0 0 (y 1))) * x3 (ix2 0 (y 1))) * gate (x4 (ix2 (y 0) (y 1)))

/-- One strip of 256 rows of a block. -/
theorem mapStrip (x0 : FVec Ideal S256x2048 .bf16) (x1 : FVec Ideal S1x2048x512 .f32) (x2 : FVec Ideal S1x1x512 .f32)
    (x3 : FVec Ideal S1x512 .f32) (x4 : FVec Ideal S256x512 .f32) (y) :
    k3_pay5 (F := Ideal) x1 x2 x3 x0 x4 y
      = ((∑ k : Fin 2048, x0 (ix2 (y 0) k) * x1 (ix3 0 k (y 1)) + x2 (ix3 0 0 (y 1))) * x3 (ix2 0 (y 1))) * gate (x4 y) := by
  pointwise [k3_pay5, k3_pay2, k3_pay3, k3_pay4, gate]

theorem out3_blk (x0 x1 x2 x3 x4) (j) : out3_5 (F := Ideal) x0 x1 x2 x3 x4 j = mapBlk x0 x1 x2 x3 x4 j := by
  unfold out3_5
  canon_tiles x h
  all_goals
    refine (mapStrip _ _ _ _ _ _).trans ?_
    have e0 : j 0 = ⟨_, h0 ▸ (j 0).isLt⟩ := Fin.ext h0
    have e1 : j 1 = x 1 := Fin.ext h1
    simp only [mapBlk]
    rw [e0, e1]
    pointwise

theorem idx3 : ∀ t : Fin cfg3.N, win3_0.index t = ![t.val / 4 % 2, t.val / 8] ∧ win3_1.index t = ![t.val / 8, 0, t.val % 4]
    ∧ win3_2.index t = ![t.val / 8, 0, t.val % 4] ∧ win3_3.index t = ![0, t.val / 8 * 4 + t.val % 4]
    ∧ win3_4.index t = ![t.val / 4 % 2, 16 + 4 * (t.val / 8) + t.val % 4]
    ∧ win3_5.index t = ![t.val / 4 % 2, t.val / 8 * 4 + t.val % 4] :=
  (by decide +kernel : ∀ t : Fin grid3.N, _)

theorem point3 (c : Dev nD) (t : Fin cfg3.N) (y) :
    mapBlk (iblk3 V c 0 t) (iblk3 V c 1 t) (iblk3 V c 2 t) (iblk3 V c 3 t) (iblk3 V c 4 t) y
      = mapped (V c main_v3) (V c main_arg3) (V c main_v4) (V c main_v5) (V c main_v2) (((cfg3.win 5).blk t).view.emb y) := by
  pointwise [mapBlk, mapped]
  blk_point [iblk3, idx3 t]

/-- The launch leaves the gated map. -/
theorem mapped_arr (c : Dev nD) : (dat3 V c).arrAt 5 cfg3.N
    = mapped (V c main_v3) (V c main_arg3) (V c main_v4) (V c main_v5) (V c main_v2) := by
  refine (dat3 V c).arrAt_eq_of_covers 5 _ (by decide +kernel) fun t _ y => ?_
  blk_simp
  rw [after3_5]
  exact (out3_blk _ _ _ _ _ y).trans (point3 V c t y)

end Cert.KernelIdeal.Layer
-- ==== Proof.Out.lean ====
/-
  The output product, over the extended reals: two launches, each of which adds to its third operand the product over
  one half of the contracted axis.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The product over the half `q` of the contracted axis, added to `h`. -/
def half (q : ℕ) (hq : q < 2) (y : FVec Ideal S8192x8192 .bf16) (w : FVec Ideal S8192x4096 .f32)
    (h : FVec Ideal S8192x4096 .f32) : FVec Ideal S8192x4096 .f32 := fun i =>
  (∑ k : Fin 4096, y (ix2 (i 0) ⟨4096 * q + k.val, by omega⟩) * w (ix2 ⟨4096 * q + k.val, by omega⟩ (i 1))) + h i

/-- What one block of such a launch stores. -/
def halfBlk (x0 : FVec Ideal S2048x4096 .bf16) (x1 : FVec Ideal S4096x512 .f32) (x2 : FVec Ideal S2048x512 .f32) :
    FVec Ideal S2048x512 .f32 := fun y =>
  (∑ k : Fin 4096, x0 (ix2 (y 0) k) * x1 (ix2 k (y 1))) + x2 (ix2 (y 0) (y 1))

/-- One strip of 256 rows of a block. -/
theorem strip (x0 : FVec Ideal S256x4096 .bf16) (x1 : FVec Ideal S4096x512 .f32) (x2 : FVec Ideal S256x512 .f32) (y) :
    k4_pay6 (F := Ideal) x1 x0 x2 y = (∑ k : Fin 4096, x0 (ix2 (y 0) k) * x1 (ix2 k (y 1))) + x2 y := by
  pointwise [k4_pay6, k4_pay5]

theorem out4_blk (x0 : FVec Ideal S2048x4096 .bf16) (x1 : FVec Ideal S4096x512 .f32) (x2 : FVec Ideal S2048x512 .f32) (j) :
    out4_3 (F := Ideal) x0 x1 x2 j = halfBlk x0 x1 x2 j := by
  unfold out4_3
  canon_tiles x h
  all_goals
    refine (strip _ _ _ _).trans ?_
    have e0 : j 0 = ⟨_, h0 ▸ (j 0).isLt⟩ := Fin.ext h0
    have e1 : j 1 = x 1 := Fin.ext h1
    simp only [halfBlk]
    rw [e0, e1]
    pointwise

theorem idx4 : ∀ t : Fin cfg4.N, win4_0.index t = ![t.val / 8, 0] ∧ win4_1.index t = ![0, t.val % 8]
    ∧ win4_2.index t = ![t.val / 8, t.val % 8] ∧ win4_3.index t = ![t.val / 8, t.val % 8] :=
  (by decide +kernel : ∀ t : Fin grid4.N, _)

theorem point4 (c : Dev nD) (t : Fin cfg4.N) (y) :
    halfBlk (iblk4 V c 0 t) (iblk4 V c 1 t) (iblk4 V c 2 t) y
      = half 0 (by omega) (V c main_v6) (V c main_arg6) (V c main_arg0) (((cfg4.win 3).blk t).view.emb y) := by
  pointwise [halfBlk, half]
  blk_point [iblk4, idx4 t]

/-- The launch leaves that half of the product, added to its third operand. -/
theorem half0_arr (c : Dev nD) :
    (dat4 V c).arrAt 3 cfg4.N = half 0 (by omega) (V c main_v6) (V c main_arg6) (V c main_arg0) := by
  refine (dat4 V c).arrAt_eq_of_covers 3 _ (by decide +kernel) fun t _ y => ?_
  blk_simp
  rw [after4_3]
  exact (out4_blk _ _ _ y).trans (point4 V c t y)

theorem out5_blk (x0 : FVec Ideal S2048x4096 .bf16) (x1 : FVec Ideal S4096x512 .f32) (x2 : FVec Ideal S2048x512 .f32) (j) :
    out5_3 (F := Ideal) x0 x1 x2 j = halfBlk x0 x1 x2 j := by
  unfold out5_3
  canon_tiles x h
  all_goals
    refine (strip _ _ _ _).trans ?_
    have e0 : j 0 = ⟨_, h0 ▸ (j 0).isLt⟩ := Fin.ext h0
    have e1 : j 1 = x 1 := Fin.ext h1
    simp only [halfBlk]
    rw [e0, e1]
    pointwise

theorem idx5 : ∀ t : Fin cfg5.N, win5_0.index t = ![t.val / 8, 1] ∧ win5_1.index t = ![1, t.val % 8]
    ∧ win5_2.index t = ![t.val / 8, t.val % 8] ∧ win5_3.index t = ![t.val / 8, t.val % 8] :=
  (by decide +kernel : ∀ t : Fin grid5.N, _)

theorem point5 (c : Dev nD) (t : Fin cfg5.N) (y) :
    halfBlk (iblk5 V c 0 t) (iblk5 V c 1 t) (iblk5 V c 2 t) y
      = half 1 (by omega) (V c main_v6) (V c main_arg6) (V c main_v7) (((cfg5.win 3).blk t).view.emb y) := by
  pointwise [halfBlk, half]
  blk_point [iblk5, idx5 t]

/-- The launch leaves that half of the product, added to its third operand. -/
theorem half1_arr (c : Dev nD) :
    (dat5 V c).arrAt 3 cfg5.N = half 1 (by omega) (V c main_v6) (V c main_arg6) (V c main_v7) := by
  refine (dat5 V c).arrAt_eq_of_covers 3 _ (by decide +kernel) fun t _ y => ?_
  blk_simp
  rw [after5_3]
  exact (out5_blk _ _ _ y).trans (point5 V c t y)

end Cert.KernelIdeal.Layer
-- ==== Proof.Layer.lean ====
/-
  What the kernel's layer leaves, over the extended reals: the six launches' arrays composed.
-/
module

public import proofs.«01_k».proof.Proof.Proj
public import proofs.«01_k».proof.Proof.Diff
public import proofs.«01_k».proof.Proof.Group
public import proofs.«01_k».proof.Proof.Out
public import Idealize.ShloMosaic.Lib.StableHlo

@[expose] public section

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)

/-- The projected rows, from the layer's input, the norm's weight and the projection. -/
def projected (a0 : FVec Ideal S8192x4096 .f32) (a1 : FVec Ideal S4096 .f32) (a2 : FVec Ideal S4096x16384 .f32) : FVec Ideal S8192x16384 .f32 :=
  proj (rms a0 (shapeCast S1x4096 a1 shapeCasts_S4096_S1x4096)) a2

/-- The gated rows, from the projected ones. -/
def rows (p : FVec Ideal S8192x16384 .f32) (a3 : FVec Ideal S4x2048x2048 .f32) (a4 : FVec Ideal S4x2048 .f32) (a5 : FVec Ideal S8192 .f32) :
    FVec Ideal S8192x8192 .bf16 :=
  mapped (avgDiff p) a3 (shapeCast S4x1x2048 a4 shapeCasts_S4x2048_S4x1x2048) (shapeCast S1x8192 a5 shapeCasts_S8192_S1x8192) p

/-- The layer's result, from the gated rows. -/
def result (a0 a6 : FVec Ideal S8192x4096 .f32) (y : FVec Ideal S8192x8192 .bf16) : FVec Ideal S8192x4096 .f32 :=
  half 1 (by omega) y a6 (half 0 (by omega) y a6 a0)

/-- The layer, from its arguments. -/
def layer (a0 : FVec Ideal S8192x4096 .f32) (a1 : FVec Ideal S4096 .f32) (a2 : FVec Ideal S4096x16384 .f32) (a3 : FVec Ideal S4x2048x2048 .f32)
    (a4 : FVec Ideal S4x2048 .f32) (a5 : FVec Ideal S8192 .f32) (a6 : FVec Ideal S8192x4096 .f32) : FVec Ideal S8192x4096 .f32 :=
  result a0 a6 (rows (projected a0 a1 a2) a3 a4 a5)

variable (m : (ℓ : Loc nD τ sig) → Buf (Elt Ideal) ℓ) (ρ : Dev nD → PrngReg) (c : Dev nD)

theorem V1_v0 : V1 m ρ c main_v0 = shapeCast S1x4096 (m ((c : Thread nD τ).loc main_arg1)) shapeCasts_S4096_S1x4096 := by
  show StableHlo.after hostOps0 (W0 m ρ c) (Proc.devRef .tc main_v0) = _
  after_results_simp
  rfl

theorem V2_v1 : V2 m ρ c main_v1 = rms (m ((c : Thread nD τ).loc main_arg0))
    (shapeCast S1x4096 (m ((c : Thread nD τ).loc main_arg1)) shapeCasts_S4096_S1x4096) := by
  refine (W2_arr m ρ c 2).trans ((rms_arr (V1 m ρ) c).trans ?_)
  rw [V1_v0 m ρ c]
  exact congrArg (fun x => rms x _) (W1_args m ρ c main_arg0 (by decide))

theorem V3_v2 : V3 m ρ c main_v2 = projected (m ((c : Thread nD τ).loc main_arg0)) (m ((c : Thread nD τ).loc main_arg1))
    (m ((c : Thread nD τ).loc main_arg2)) := by
  refine (W3_arr m ρ c 2).trans ((proj_arr (V2 m ρ) c).trans ?_)
  rw [V2_v1 m ρ c]
  exact congrArg (fun x => proj _ x) (W2_args m ρ c main_arg2 (by decide))

theorem V5_v3 : V5 m ρ c main_v3 = avgDiff (V3 m ρ c main_v2) :=
  (W5_of m ρ c main_v3 (by decide)).trans ((W4_arr m ρ c 2).trans (avgDiff_arr (V3 m ρ) c))

theorem V5_v2 : V5 m ρ c main_v2 = V3 m ρ c main_v2 :=
  (W5_of m ρ c main_v2 (by decide)).trans (W4_of m ρ c main_v2 (by decide))

theorem V5_v4 : V5 m ρ c main_v4 = shapeCast S4x1x2048 (m ((c : Thread nD τ).loc main_arg4)) shapeCasts_S4x2048_S4x1x2048 := by
  rw [← W4_args m ρ c main_arg4 (by decide)]
  show StableHlo.after hostOps3 (W4 m ρ c) (Proc.devRef .tc main_v4) = _
  after_results_simp
  rfl

theorem V5_v5 : V5 m ρ c main_v5 = shapeCast S1x8192 (m ((c : Thread nD τ).loc main_arg5)) shapeCasts_S8192_S1x8192 := by
  rw [← W4_args m ρ c main_arg5 (by decide)]
  show StableHlo.after hostOps3 (W4 m ρ c) (Proc.devRef .tc main_v5) = _
  after_results_simp
  rfl

theorem V6_v6 : V6 m ρ c main_v6 = rows (V3 m ρ c main_v2) (m ((c : Thread nD τ).loc main_arg3)) (m ((c : Thread nD τ).loc main_arg4))
    (m ((c : Thread nD τ).loc main_arg5)) := by
  refine (W6_arr m ρ c 5).trans ((mapped_arr (V5 m ρ) c).trans ?_)
  rw [V5_v3 m ρ c, V5_v4 m ρ c, V5_v5 m ρ c, V5_v2 m ρ c]
  exact congrArg (fun x => mapped _ x _ _ _) (W5_args m ρ c main_arg3 (by decide))

theorem V7_v7 : V7 m ρ c main_v7 = half 0 (by omega) (V6 m ρ c main_v6) (m ((c : Thread nD τ).loc main_arg6)) (m ((c : Thread nD τ).loc main_arg0)) := by
  refine (W7_arr m ρ c 3).trans ((half0_arr (V6 m ρ) c).trans ?_)
  exact congrArg₂ (half 0 (by omega) (V6 m ρ c main_v6)) (W6_args m ρ c main_arg6 (by decide)) (W6_args m ρ c main_arg0 (by decide))

/-- The kernel leaves the layer in its result. -/
theorem result_eq : W8 m ρ c (Proc.devRef .tc main_v8) = layer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (W8_arr m ρ c 3).trans ((half1_arr (V7 m ρ) c).trans ?_)
  have e6 : V7 m ρ c main_v6 = V6 m ρ c main_v6 := W7_of m ρ c main_v6 (by decide)
  rw [e6, V7_v7 m ρ c, V6_v6 m ρ c, V3_v2 m ρ c]
  exact congrArg (fun x => half 1 (by omega) _ x _) (W7_args m ρ c main_arg6 (by decide))

end Cert.KernelIdeal.Layer
-- ==== Proof.Math.lean ====
/-
  The mathematics that kernel and reference differ by, over the extended reals: a window of a column as a difference of
  two prefix sums, the gate by the hyperbolic tangent and by the logistic function, and which values are real numbers.
-/
module

public import Idealize.ShloMosaic.Lib.Pointwise
public import Idealize.ShloMosaic.Lib.IdealHost
public import Mathlib.Analysis.SpecialFunctions.Trigonometric.DerivHyp

@[expose] public section

noncomputable section

namespace Cert.LayerMath

open Idealize.ShloMosaic

/-- The extended real is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A magnitude below the largest extended real is a real number's. -/
theorem IsReal.of_abs_lt {x : EReal} (h : max x (-x) < ⊤) : IsReal x := by
  induction x using EReal.rec with
  | bot => simp at h
  | top => simp at h
  | coe r => exact ⟨r, rfl⟩

theorem ofBits_inf : Ideal.ofBits .f32 0x7F800000#32 = ⊤ := by
  simp [Ideal.ofBits, Ideal.ieee]

theorem ofBits_half : Ideal.ofBits .f32 0x3F000000#32 = ((1 / 2 : ℝ) : EReal) := by
  simp [Ideal.ofBits, Ideal.ieee, -EReal.coe_mul]
  norm_num

theorem ofBits_4096 : Ideal.ofBits .f32 0x45800000#32 = ((4096 : ℝ) : EReal) := by
  simp [Ideal.ofBits, Ideal.ieee, -EReal.coe_mul]
  norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The gate `z / 2 + z / 2 * tanh (z / 2)` is `z * (1 / (1 + exp (-z)))`. -/
theorem gate_real (r : ℝ) : r / 2 + r / 2 * Real.tanh (r / 2) = r * (1 / (1 + Real.exp (-r))) := by
  have hab : Real.exp (r / 2) * Real.exp (-(r / 2)) = 1 := by rw [← Real.exp_add]; simp
  have hb2 : Real.exp (-r) = Real.exp (-(r / 2)) * Real.exp (-(r / 2)) := by rw [← Real.exp_add]; congr 1; ring
  rw [Real.tanh_eq_sinh_div_cosh, Real.sinh_eq, Real.cosh_eq, hb2]
  have ha := Real.exp_pos (r / 2)
  have hb := Real.exp_pos (-(r / 2))
  set a := Real.exp (r / 2)
  set b := Real.exp (-(r / 2))
  have h1 : a + b ≠ 0 := by positivity
  have h2 : 1 + b * b ≠ 0 := by positivity
  field_simp
  linear_combination (2 * r * b) * hab

theorem gate_eq {z : EReal} (hz : IsReal z) :
    Ideal.ofBits .f32 0x3F000000#32 * z + Ideal.ofBits .f32 0x3F000000#32 * z * Ideal.tanh (Ideal.ofBits .f32 0x3F000000#32 * z)
      = z * Ideal.div 1 (1 + Ideal.exp (-z)) := by
  obtain ⟨r, rfl⟩ := hz
  have hne : (1 + Real.exp (-r)) ≠ 0 := by positivity
  rw [ofBits_half, ← EReal.coe_neg, Ideal.exp_coe, ← EReal.coe_one, ← EReal.coe_add, Ideal.div_coe hne, ← EReal.coe_mul,
    Ideal.tanh_coe, ← EReal.coe_mul, ← EReal.coe_mul, ← EReal.coe_mul, ← EReal.coe_add]
  congr 1
  have h := gate_real r
  rw [show (1 / 2 : ℝ) * r = r / 2 by ring, one_mul]
  exact h

/-- A window of `w` real numbers that ends at row `n` is the difference of two prefix sums. -/
theorem window_eq (f : ℕ → EReal) (hf : ∀ k, IsReal (f k)) (n w : ℕ) :
    (∑ k ∈ Finset.range (n + 1), f k) - (if w ≤ n then ∑ k ∈ Finset.range (n - w + 1), f k else 0)
      = ∑ s ∈ Finset.range w, if s ≤ n then f (n - s) else 0 := by
  choose g hg using hf
  have e1 : ∀ m, (∑ k ∈ Finset.range m, f k) = ((∑ k ∈ Finset.range m, g k : ℝ) : EReal) := fun m => by
    rw [coe_sum]; exact Finset.sum_congr rfl fun k _ => hg k
  have e2 : (∑ s ∈ Finset.range w, if s ≤ n then f (n - s) else 0)
      = ((∑ s ∈ Finset.range w, if s ≤ n then g (n - s) else 0 : ℝ) : EReal) := by
    rw [coe_sum]
    refine Finset.sum_congr rfl fun s _ => ?_
    split_ifs
    · exact hg _
    · rfl
  rw [e1, e2]
  split_ifs with h
  · rw [e1, ← EReal.coe_sub]
    congr 1
    have hsplit : n + 1 = (n - w + 1) + w := by omega
    rw [hsplit, Finset.sum_range_add, add_sub_cancel_left, ← Finset.sum_range_reflect]
    refine Finset.sum_congr rfl fun s hs => ?_
    have := Finset.mem_range.mp hs
    rw [if_pos (by omega)]
    congr 1
    omega
  · rw [sub_zero]
    congr 1
    obtain ⟨d, rfl⟩ : ∃ d, w = (n + 1) + d := ⟨w - (n + 1), by omega⟩
    rw [Finset.sum_range_add (n := n + 1) (m := d), ← Finset.sum_range_reflect g]
    have z : (∑ s ∈ Finset.range d, if n + 1 + s ≤ n then g (n - (n + 1 + s)) else 0) = 0 :=
      Finset.sum_eq_zero fun s _ => if_neg (by omega)
    rw [z, add_zero]
    refine Finset.sum_congr rfl fun s hs => ?_
    have := Finset.mem_range.mp hs
    rw [if_pos (by omega)]
    congr 1

/-- One entry of the normalised rows is a real number where the row and the weight are. -/
theorem rms_isReal {K : ℕ} (x : Fin K → EReal) (hx : ∀ k, IsReal (x k)) (v g : EReal) (hv : IsReal v) (hg : IsReal g) :
    IsReal (v * Ideal.rsqrt (Ideal.div (∑ k : Fin K, x k * x k) (Ideal.ofBits .f32 0x45800000#32)
      + Ideal.ofBits .f32 0x358637BD#32) * g) := by
  obtain ⟨e, he, hee⟩ := ofBits_eps
  choose f hf using hx
  have hs : (∑ k : Fin K, x k * x k) = ((∑ k : Fin K, f k * f k : ℝ) : EReal) := by
    rw [coe_sum]
    exact Finset.sum_congr rfl fun k _ => by rw [hf k, EReal.coe_mul]
  have hpos : 0 ≤ ∑ k : Fin K, f k * f k := Finset.sum_nonneg fun k _ => mul_self_nonneg _
  have hq : 0 < (∑ k : Fin K, f k * f k) * (1 / 4096) + e := by positivity
  rw [hee, ofBits_4096, hs, Ideal.div_coe (by norm_num), ← EReal.coe_mul, ← EReal.coe_add, Ideal.rsqrt_coe,
    if_neg (not_lt.mpr hq.le), if_neg hq.ne']
  exact (hv.mul (IsReal.coe _)).mul hg

theorem foldl_add {ι : Type*} (l : List ι) (f : ι → EReal) (a : EReal) :
    l.foldl (fun r n => r + f n) a = a + (l.map f).sum := by
  induction l generalizing a with
  | nil => simp
  | cons b l ih => rw [List.foldl_cons, ih, List.map_cons, List.sum_cons, add_assoc]

/-- The running sum of a column, as a window of the whole length padded low by one less: each row holds the sum of the
    column up to it. -/
theorem prefix_sum {N M C : ℕ} (hN : M + 1 = N) (x : (⟨2, ![N, C]⟩ : Shape).Idx → EReal)
    (h : (⟨2, ![N, C]⟩ : Shape).ReduceWindows (![N, 1] : Fin 2 → ℕ) ![1, 1] ![M, 0] ![0, 0] ⟨2, ![N, C]⟩)
    (init : (⟨0, ![]⟩ : Shape).Idx → EReal) (hi : ∀ i, init i = 0) (hu : 0 < (⟨0, ![]⟩ : Shape).numel) (f : ℕ → EReal) (q : Fin C)
    (hf : ∀ k : Fin N, x (ix2 k q) = f k.val) (n : Fin N) :
    Host.reduceWindow (· + ·) ![N, 1] ![1, 1] ![M, 0] ![0, 0] x init h hu (ix2 n q) = ∑ k ∈ Finset.range (n.val + 1), f k := by
  have hnum : (⟨2, ![N, 1]⟩ : Shape).numel = N := by simp [Shape.numel, Fin.prod_univ_two]
  have hlt : ∀ a : Fin (⟨2, ![N, 1]⟩ : Shape).numel, a.val < N := fun a => a.isLt.trans_eq hnum
  have hsym : ∀ a : Fin (⟨2, ![N, 1]⟩ : Shape).numel, ((⟨2, ![N, 1]⟩ : Shape).rowMajor.symm a) = ix2 ⟨a.val, hlt a⟩ 0 := fun a =>
    ((⟨2, ![N, 1]⟩ : Shape).rowMajor.symm_apply_eq).2 (Fin.ext (by
      rw [Shape.rowMajor_val_two]
      show a.val = a.val * 1 + 0
      omega))
  have hs0 : ∀ a : Fin (⟨2, ![N, 1]⟩ : Shape).numel, ((⟨2, ![N, 1]⟩ : Shape).rowMajor.symm a 0).val = a.val := fun a => by
    rw [hsym a]
    rfl
  have hs1 : ∀ a : Fin (⟨2, ![N, 1]⟩ : Shape).numel, ((⟨2, ![N, 1]⟩ : Shape).rowMajor.symm a 1).val = 0 := fun a => by
    rw [hsym a]
    rfl
  have step : Host.reduceWindow (· + ·) ![N, 1] ![1, 1] ![M, 0] ![0, 0] x init h hu (ix2 n q)
      = (List.finRange (⟨2, ![N, 1]⟩ : Shape).numel).foldl
          (fun r a => r + if M ≤ n.val + a.val then f (n.val + a.val - M) else 0) (init (Shape.Idx.first hu)) := by
    refine List.foldl_ext _ _ _ fun r a _ => congrArg (r + ·) ?_
    have hn := n.isLt
    have ha := hlt a
    have h0 := hs0 a
    have h1 := hs1 a
    by_cases hM : M ≤ n.val + a.val
    · rw [if_pos hM]
      refine (dif_pos ?_).trans ?_
      · intro b
        fin_cases b
        · show M ≤ n.val * 1 + ((⟨2, ![N, 1]⟩ : Shape).rowMajor.symm a 0).val
            ∧ n.val * 1 + ((⟨2, ![N, 1]⟩ : Shape).rowMajor.symm a 0).val - M < N
          omega
        · show 0 ≤ q.val * 1 + ((⟨2, ![N, 1]⟩ : Shape).rowMajor.symm a 1).val
            ∧ q.val * 1 + ((⟨2, ![N, 1]⟩ : Shape).rowMajor.symm a 1).val - 0 < C
          have := q.isLt
          omega
      · refine Eq.trans ?_ (hf ⟨n.val + a.val - M, by omega⟩)
        refine congrArg x (funext fun b => Fin.ext ?_)
        fin_cases b
        · show n.val * 1 + ((⟨2, ![N, 1]⟩ : Shape).rowMajor.symm a 0).val - M = n.val + a.val - M
          omega
        · show q.val * 1 + ((⟨2, ![N, 1]⟩ : Shape).rowMajor.symm a 1).val - 0 = q.val
          omega
    · rw [if_neg hM]
      refine (dif_neg fun hin => ?_).trans (hi _)
      have h2 : M ≤ n.val * 1 + ((⟨2, ![N, 1]⟩ : Shape).rowMajor.symm a 0).val := (hin 0).1
      omega
  rw [step, foldl_add, hi, zero_add, ← Fin.sum_univ_def,
    Finset.sum_fin_eq_sum_range, hnum]
  have e : (∑ k ∈ Finset.range N, if h : k < N then (if M ≤ n.val + k then f (n.val + k - M) else 0) else 0)
      = ∑ k ∈ Finset.range ((M - n.val) + (n.val + 1)), if M ≤ n.val + k then f (n.val + k - M) else 0 := by
    have hn := n.isLt
    rw [show (M - n.val) + (n.val + 1) = N by omega]
    exact Finset.sum_congr rfl fun k hk => dif_pos (Finset.mem_range.mp hk)
  refine Eq.trans ?_ (e.trans ?_)
  · rfl
  have hn := n.isLt
  rw [Finset.sum_range_add, Finset.sum_eq_zero (s := Finset.range (M - n.val)), zero_add]
  · refine Finset.sum_congr rfl fun k _ => ?_
    rw [if_pos (by omega)]
    congr 1
    omega
  · intro k hk
    have := Finset.mem_range.mp hk
    exact if_neg (by omega)

/-- The same of the host operation. -/
theorem host_prefix_sum {N M C : ℕ} (hN : M + 1 = N) (x : FVec Ideal ⟨2, ![N, C]⟩ .f32)
    (h : (⟨2, ![N, C]⟩ : Shape).ReduceWindows (![N, 1] : Fin 2 → ℕ) ![1, 1] ![M, 0] ![0, 0] ⟨2, ![N, C]⟩)
    (init : FVec Ideal ⟨0, ![]⟩ .f32) (hi : ∀ i, init i = (0 : EReal)) (hu : 0 < (⟨0, ![]⟩ : Shape).numel) (f : ℕ → EReal) (q : Fin C)
    (hf : ∀ k : Fin N, x (ix2 k q) = f k.val) (n : Fin N) :
    Host.reduceWindowAdd ![N, 1] ![1, 1] ![M, 0] ![0, 0] x init h hu (ix2 n q) = ∑ k ∈ Finset.range (n.val + 1), f k :=
  prefix_sum hN x h init hi hu f q hf n

end Cert.LayerMath
-- ==== Proof.Ref.lean ====
/-
  The reference's result, stage by stage, over the extended reals: each stage of its text read at an index.
-/
module

public import proofs.«01_k».proof.Proof.Gen.ReferenceIdeal.Run
public import Idealize.ShloMosaic.Lib.Pointwise
public import proofs.«01_k».proof.Proof.Math
public import Idealize.ShloMosaic.Lib.Claim

@[expose] public section

set_option maxRecDepth 16384

noncomputable section

namespace Cert.ReferenceIdeal.Layer

open Cert.ReferenceIdeal Cert.ReferenceIdeal.Gen
open Idealize.ShloMosaic Idealize.ShloMosaic.TcCoe Idealize.SL.Sem

/-- The normalised rows. -/
def unit (a0 : FVec Ideal S8192x4096 .f32) (a1 : FVec Ideal S4096 .f32) : FVec Ideal S8192x4096 .f32 :=
  (mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1)))

/-- The input projection. -/
def wide (u : FVec Ideal S8192x4096 .f32) (a2 : FVec Ideal S4096x16384 .f32) : FVec Ideal S8192x16384 .f32 :=
  (Host.dotGeneral dot_S8192x4096_S4096x16384_S8192x16384_1_0_0_1_n_n none u a2)

/-- The values: the first half of the columns. -/
def vals (p : FVec Ideal S8192x16384 .f32) : FVec Ideal S8192x8192 .f32 :=
  (extractStridedSlice S8192x8192 ![0, 0] p slices_S8192x16384_S8192x8192_0_0)

/-- Their prefix sums down the rows. -/
def pref (v : FVec Ideal S8192x8192 .f32) : FVec Ideal S8192x8192 .f32 :=
  (Host.reduceWindowAdd ![8192, 1] ![1, 1] ![8191, 0] ![0, 0] v (broadcastInDim S_ ![] bcast_S_S_ (constant S_ .f32 0x00000000#32)) reduceWindows_S8192x8192_S8192x8192_w8192s1p8191_0_w1s1p0_0 h_S_)

/-- The quarter 0's averages less its values, from the prefix sums `c` and the values `v`. -/
def part0 (c v : FVec Ideal S8192x8192 .f32) : FVec Ideal S8192x1x2048 .f32 :=
  (broadcastInDim S8192x1x2048 ![0, 2] bcast_S8192x2048_S8192x1x2048_0_2 (subf (Host.divf (subf (extractStridedSlice S8192x2048 ![0, 0] c slices_S8192x8192_S8192x2048_0_0) (extractStridedSlice S8192x2048 ![0, 0] (pad S8194x2048 ![2, 0] ![0, 0] ![0, 0] (extractStridedSlice S8192x2048 ![0, 0] c slices_S8192x8192_S8192x2048_0_0) (sitofp .f32 (constantI S_ 32 0#32)) pads_S8192x2048_S8194x2048_200_000 h_S_) slices_S8194x2048_S8192x2048_0_0)) (broadcastInDim S8192x2048 ![0, 1] bcast_S8192x1_S8192x2048_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 2#32))))))) (extractStridedSlice S8192x2048 ![0, 0] v slices_S8192x8192_S8192x2048_0_0)))

/-- The quarter 1's averages less its values, from the prefix sums `c` and the values `v`. -/
def part1 (c v : FVec Ideal S8192x8192 .f32) : FVec Ideal S8192x1x2048 .f32 :=
  (broadcastInDim S8192x1x2048 ![0, 2] bcast_S8192x2048_S8192x1x2048_0_2 (subf (Host.divf (subf (extractStridedSlice S8192x2048 ![0, 2048] c slices_S8192x8192_S8192x2048_0_2048) (extractStridedSlice S8192x2048 ![0, 0] (pad S8196x2048 ![4, 0] ![0, 0] ![0, 0] (extractStridedSlice S8192x2048 ![0, 2048] c slices_S8192x8192_S8192x2048_0_2048) (sitofp .f32 (constantI S_ 32 0#32)) pads_S8192x2048_S8196x2048_400_000 h_S_) slices_S8196x2048_S8192x2048_0_0)) (broadcastInDim S8192x2048 ![0, 1] bcast_S8192x1_S8192x2048_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 4#32))))))) (extractStridedSlice S8192x2048 ![0, 2048] v slices_S8192x8192_S8192x2048_0_2048)))

/-- The quarter 2's averages less its values, from the prefix sums `c` and the values `v`. -/
def part2 (c v : FVec Ideal S8192x8192 .f32) : FVec Ideal S8192x1x2048 .f32 :=
  (broadcastInDim S8192x1x2048 ![0, 2] bcast_S8192x2048_S8192x1x2048_0_2 (subf (Host.divf (subf (extractStridedSlice S8192x2048 ![0, 4096] c slices_S8192x8192_S8192x2048_0_4096) (extractStridedSlice S8192x2048 ![0, 0] (pad S8200x2048 ![8, 0] ![0, 0] ![0, 0] (extractStridedSlice S8192x2048 ![0, 4096] c slices_S8192x8192_S8192x2048_0_4096) (sitofp .f32 (constantI S_ 32 0#32)) pads_S8192x2048_S8200x2048_800_000 h_S_) slices_S8200x2048_S8192x2048_0_0)) (broadcastInDim S8192x2048 ![0, 1] bcast_S8192x1_S8192x2048_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 8#32))))))) (extractStridedSlice S8192x2048 ![0, 4096] v slices_S8192x8192_S8192x2048_0_4096)))

/-- The quarter 3's averages less its values, from the prefix sums `c` and the values `v`. -/
def part3 (c v : FVec Ideal S8192x8192 .f32) : FVec Ideal S8192x1x2048 .f32 :=
  (broadcastInDim S8192x1x2048 ![0, 2] bcast_S8192x2048_S8192x1x2048_0_2 (subf (Host.divf (subf (extractStridedSlice S8192x2048 ![0, 6144] c slices_S8192x8192_S8192x2048_0_6144) (extractStridedSlice S8192x2048 ![0, 0] (pad S8208x2048 ![16, 0] ![0, 0] ![0, 0] (extractStridedSlice S8192x2048 ![0, 6144] c slices_S8192x8192_S8192x2048_0_6144) (sitofp .f32 (constantI S_ 32 0#32)) pads_S8192x2048_S8208x2048_1600_000 h_S_) slices_S8208x2048_S8192x2048_0_0)) (broadcastInDim S8192x2048 ![0, 1] bcast_S8192x1_S8192x2048_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 16#32))))))) (extractStridedSlice S8192x2048 ![0, 6144] v slices_S8192x8192_S8192x2048_0_6144)))

/-- The four quarters. -/
def parts (c v : FVec Ideal S8192x8192 .f32) : FVec Ideal S8192x4x2048 .f32 :=
  concatenate S8192x4x2048 1 [⟨S8192x1x2048, part0 c v⟩, ⟨S8192x1x2048, part1 c v⟩, ⟨S8192x1x2048, part2 c v⟩,
    ⟨S8192x1x2048, part3 c v⟩] concatenates_S8192x1x2048_S8192x1x2048_S8192x1x2048_S8192x1x2048_S8192x4x2048_d1

/-- The grouped map with its bias and the channel scales. -/
def mix (a3 : FVec Ideal S4x2048x2048 .f32) (a4 : FVec Ideal S4x2048 .f32) (a5 : FVec Ideal S8192 .f32) (d : FVec Ideal S8192x4x2048 .f32) : FVec Ideal S8192x8192 .f32 :=
  (mulf (shapeCast _ (addf (transpose S8192x4x2048 [2, 0, 1] (Host.dotGeneral dot_S4x2048x2048_S8192x4x2048_S4x2048x8192_1_2_2_0_0_1 none a3 d) transposes_S4x2048x8192_S8192x4x2048_2_0_1) (broadcastInDim S8192x4x2048 ![0, 1, 2] bcast_S1x4x2048_S8192x4x2048_0_1_2 (broadcastInDim S1x4x2048 ![1, 2] bcast_S4x2048_S1x4x2048_1_2 a4))) shapeCasts_S8192x4x2048_S8192x8192) (broadcastInDim S8192x8192 ![0, 1] bcast_S1x8192_S8192x8192_0_1 (broadcastInDim S1x8192 ![1] bcast_S8192_S1x8192_1 a5)))

/-- The gate of the second half of the columns. -/
def gated (p : FVec Ideal S8192x16384 .f32) : FVec Ideal S8192x8192 .f32 :=
  (mulf (extractStridedSlice S8192x8192 ![0, 8192] p slices_S8192x16384_S8192x8192_0_8192) (Host.divf (broadcastInDim S8192x8192 ![] bcast_S_S8192x8192 (constant S_ .f32 0x3F800000#32)) (addf (broadcastInDim S8192x8192 ![] bcast_S_S8192x8192 (constant S_ .f32 0x3F800000#32)) (Host.exp (Host.negf (extractStridedSlice S8192x8192 ![0, 8192] p slices_S8192x16384_S8192x8192_0_8192))))))

/-- The output product, added to the layer's input. -/
def fin (a0 a6 : FVec Ideal S8192x4096 .f32) (x z : FVec Ideal S8192x8192 .f32) : FVec Ideal S8192x4096 .f32 :=
  addf a0 (Host.dotGeneral dot_S8192x8192_S8192x4096_S8192x4096_1_0_0_1_n_n none (mulf x z) a6)

/-- The layer, from its arguments. -/
def layer (a0 : FVec Ideal S8192x4096 .f32) (a1 : FVec Ideal S4096 .f32) (a2 : FVec Ideal S4096x16384 .f32) (a3 : FVec Ideal S4x2048x2048 .f32)
    (a4 : FVec Ideal S4x2048 .f32) (a5 : FVec Ideal S8192 .f32) (a6 : FVec Ideal S8192x4096 .f32) : FVec Ideal S8192x4096 .f32 :=
  let p := wide (unit a0 a1) a2
  fin a0 a6 (mix a3 a4 a5 (parts (pref (vals p)) (vals p))) (gated p)

/-- The run's result is that layer. -/
theorem res_eq (m : (ℓ : Loc nD τ sig) → Buf (Elt Ideal) ℓ) (c : Dev nD) :
    Value.res_main_v91 m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- What a quarter with windows of `w` rows holds at row `n` for column `q`: the difference of two prefix sums over the
    count of the rows summed, less the value. -/
def quarter (w : ℕ) (c v : FVec Ideal S8192x8192 .f32) (n : Fin 8192) (q : Fin 8192) : EReal :=
  Ideal.div (c (ix2 n q) - if h : w ≤ n.val ∧ n.val - w < 8192 then c (ix2 ⟨n.val - w, h.2⟩ q) else FloatOps.sitofp (F := Ideal) .f32 0#32)
    (FloatOps.sitofp (F := Ideal) .f32 (IntOp.minsi (IntOp.addi (BitVec.ofNat 32 n.val) 1#32) (BitVec.ofNat 32 w))) - v (ix2 n q)

theorem part0_at (c v : FVec Ideal S8192x8192 .f32) (n : Fin 8192) (k : Fin 2048) :
    part0 c v (ix3 n 0 k) = quarter 2 c v n ⟨k.val, by omega⟩ := by
  pointwise [part0, quarter]

theorem part1_at (c v : FVec Ideal S8192x8192 .f32) (n : Fin 8192) (k : Fin 2048) :
    part1 c v (ix3 n 0 k) = quarter 4 c v n ⟨2048 + k.val, by omega⟩ := by
  pointwise [part1, quarter]

theorem part2_at (c v : FVec Ideal S8192x8192 .f32) (n : Fin 8192) (k : Fin 2048) :
    part2 c v (ix3 n 0 k) = quarter 8 c v n ⟨4096 + k.val, by omega⟩ := by
  pointwise [part2, quarter]

theorem part3_at (c v : FVec Ideal S8192x8192 .f32) (n : Fin 8192) (k : Fin 2048) :
    part3 c v (ix3 n 0 k) = quarter 16 c v n ⟨6144 + k.val, by omega⟩ := by
  pointwise [part3, quarter]

theorem parts_at (c v : FVec Ideal S8192x8192 .f32) (n : Fin 8192) (g : Fin 4) (k : Fin 2048) :
    parts c v (ix3 n g k) = quarter (2 ^ (g.val + 1)) c v n ⟨2048 * g.val + k.val, by omega⟩ := by
  fin_cases g
  · refine Eq.trans ?_ ((part0_at c v n k).trans (congrArg (quarter 2 c v n) (Fin.ext (by simp))))
    pointwise [parts]
  · refine Eq.trans ?_ ((part1_at c v n k).trans (congrArg (quarter 4 c v n) (Fin.ext (by simp))))
    pointwise [parts]
  · refine Eq.trans ?_ ((part2_at c v n k).trans (congrArg (quarter 8 c v n) (Fin.ext (by simp))))
    pointwise [parts]
  · refine Eq.trans ?_ ((part3_at c v n k).trans (congrArg (quarter 16 c v n) (Fin.ext (by simp))))
    pointwise [parts]

theorem gated_at (p : FVec Ideal S8192x16384 .f32) (n k : Fin 8192) :
    gated p (ix2 n k) = p (ix2 n ⟨8192 + k.val, by omega⟩) * Ideal.div 1 (1 + Ideal.exp (-p (ix2 n ⟨8192 + k.val, by omega⟩))) := by
  pointwise [gated]

theorem mix_at (a3 : FVec Ideal S4x2048x2048 .f32) (a4 : FVec Ideal S4x2048 .f32) (a5 : FVec Ideal S8192 .f32)
    (d : FVec Ideal S8192x4x2048 .f32) (n k : Fin 8192) :
    mix a3 a4 a5 d (ix2 n k)
      = ((∑ x : Fin 2048, a3 (ix3 ⟨k.val / 2048, by omega⟩ x ⟨k.val % 2048, by omega⟩) * d (ix3 n ⟨k.val / 2048, by omega⟩ x))
          + a4 (ix2 ⟨k.val / 2048, by omega⟩ ⟨k.val % 2048, by omega⟩)) * a5 (ix1 k) := by
  pointwise [mix]

theorem fin_at (a0 a6 : FVec Ideal S8192x4096 .f32) (x z : FVec Ideal S8192x8192 .f32) (n : Fin 8192) (k : Fin 4096) :
    fin a0 a6 x z (ix2 n k) = a0 (ix2 n k) + ∑ q : Fin 8192, x (ix2 n q) * z (ix2 n q) * a6 (ix2 q k) := by
  pointwise [fin]

theorem wide_at (u : FVec Ideal S8192x4096 .f32) (a2 : FVec Ideal S4096x16384 .f32) (n : Fin 8192) (k : Fin 16384) :
    wide u a2 (ix2 n k) = ∑ x : Fin 4096, u (ix2 n x) * a2 (ix2 x k) := by
  pointwise [wide]

theorem unit_at (a0 : FVec Ideal S8192x4096 .f32) (a1 : FVec Ideal S4096 .f32) (n : Fin 8192) (k : Fin 4096) :
    unit a0 a1 (ix2 n k) = a0 (ix2 n k) * Ideal.rsqrt (Ideal.div (∑ x : Fin 4096, a0 (ix2 n x) * a0 (ix2 n x))
      (Ideal.ofBits .f32 0x45800000#32) + Ideal.ofBits .f32 0x358637BD#32) * a1 (ix1 k) := by
  pointwise [unit]

theorem vals_at (p : FVec Ideal S8192x16384 .f32) (n k : Fin 8192) : vals p (ix2 n k) = p (ix2 n ⟨k.val, by omega⟩) := by
  pointwise [vals]

/-- Row `n` of the prefix sums of column `q`, where the column is `f`. -/
theorem pref_at (v : FVec Ideal S8192x8192 .f32) (q : Fin 8192) (f : ℕ → EReal) (hf : ∀ k : Fin 8192, v (ix2 k q) = f k.val) (n : Fin 8192) :
    pref v (ix2 n q) = ∑ k ∈ Finset.range (n.val + 1), f k := by
  have h0 : ∀ i, (broadcastInDim S_ ![] bcast_S_S_ (constant (F := Ideal) S_ .f32 0x00000000#32)) i = (0 : EReal) := fun i => by
    pointwise
  unfold pref
  exact LayerMath.host_prefix_sum (N := 8192) (M := 8191) (C := 8192) (by norm_num) v
    reduceWindows_S8192x8192_S8192x8192_w8192s1p8191_0_w1s1p0_0 _ h0 h_S_ f q hf n

end Cert.ReferenceIdeal.Layer
-- ==== Proof.Same.lean ====
/-
  Kernel and reference hold the same layer, over the extended reals, where the input, the norm's weight and the projection
  are real numbers: entry by entry, stage by stage.
-/
module

public import proofs.«01_k».proof.Proof.Layer
public import proofs.«01_k».proof.Proof.Ref

@[expose] public section

set_option maxRecDepth 16384

noncomputable section

namespace Cert.Same

open Idealize.ShloMosaic Cert.LayerMath
open Cert.KernelIdeal (S8192x4096 S4096 S4096x16384 S4x2048x2048 S4x2048 S8192 S8192x16384 S8192x8192)

theorem weight_row (a : FVec Ideal S4096 .f32) (h) (k : Fin 4096) : shapeCast Cert.KernelIdeal.S1x4096 a h (ix2 0 k) = a (ix1 k) := by
  pointwise

theorem scale_row (a : FVec Ideal S8192 .f32) (h) (k : Fin 8192) : shapeCast Cert.KernelIdeal.S1x8192 a h (ix2 0 k) = a (ix1 k) := by
  pointwise

/-- The projected rows are the same. -/
theorem projected_eq (a0 : FVec Ideal S8192x4096 .f32) (a1 : FVec Ideal S4096 .f32) (a2 : FVec Ideal S4096x16384 .f32) :
    KernelIdeal.Layer.projected a0 a1 a2 = ReferenceIdeal.Layer.wide (ReferenceIdeal.Layer.unit a0 a1) a2 := by
  funext i
  obtain ⟨n, k, rfl⟩ : ∃ (n : Fin 8192) (k : Fin 16384), i = ix2 n k := ⟨i 0, i 1, eq_ix2 i⟩
  rw [ReferenceIdeal.Layer.wide_at]
  show (∑ x : Fin 4096, KernelIdeal.Layer.rms a0 (shapeCast Cert.KernelIdeal.S1x4096 a1 _) (ix2 n x) * a2 (ix2 x k) : EReal) = _
  refine Finset.sum_congr rfl fun x _ => ?_
  rw [ReferenceIdeal.Layer.unit_at]
  congr 1
  unfold KernelIdeal.Layer.rms
  congr 1
  exact weight_row a1 _ x

/-- They are real numbers. -/
theorem projected_isReal (a0 : FVec Ideal S8192x4096 .f32) (a1 : FVec Ideal S4096 .f32) (a2 : FVec Ideal S4096x16384 .f32)
    (h0 : ∀ i, IsReal (a0 i)) (h1 : ∀ i, IsReal (a1 i)) (h2 : ∀ i, IsReal (a2 i)) (i : S8192x16384.Idx) :
    IsReal (KernelIdeal.Layer.projected a0 a1 a2 i) := by
  obtain ⟨n, k, rfl⟩ : ∃ (n : Fin 8192) (k : Fin 16384), i = ix2 n k := ⟨i 0, i 1, eq_ix2 i⟩
  rw [projected_eq, ReferenceIdeal.Layer.wide_at]
  refine IsReal.sum _ _ fun x => IsReal.mul ?_ (h2 _)
  rw [ReferenceIdeal.Layer.unit_at]
  exact rms_isReal (fun k => a0 (ix2 n k)) (fun k => h0 _) _ _ (h0 _) (h1 _)

theorem sitofp_zero : FloatOps.sitofp (F := Ideal) .f32 (0#32 : BitVec 32) = (0 : EReal) := by
  show (((0#32 : BitVec 32).toInt : ℝ) : EReal) = 0
  simp

/-- The count of the rows summed. -/
theorem count_eq (n w : ℕ) (hn : n < 8192) (hw : w ≤ 16) :
    FloatOps.sitofp (F := Ideal) .f32 (IntOp.minsi (IntOp.addi (BitVec.ofNat 32 n) 1#32) (BitVec.ofNat 32 w))
      = (((min (n + 1) w : ℕ) : ℝ) : EReal) := by
  have e : IntOp.addi (BitVec.ofNat 32 n) 1#32 = BitVec.ofNat 32 (n + 1) := (BitVec.ofNat_add n 1).symm
  have hw' : (BitVec.ofNat 32 w).toNat = w := by rw [BitVec.toNat_ofNat]; omega
  show (((IntOp.minsi (IntOp.addi (BitVec.ofNat 32 n) 1#32) (BitVec.ofNat 32 w)).toInt : ℝ) : EReal) = _
  rw [e, KernelIdeal.Layer.minsi_small (n + 1) (by omega) _ (by omega), hw']
  simp

/-- An average by the difference of prefix sums is the window's sum times the reciprocal of the count. -/
theorem quarter_eq (p : FVec Ideal S8192x16384 .f32) (hp : ∀ i, IsReal (p i)) (w : ℕ) (hw0 : 0 < w) (hw : w ≤ 16) (n q : Fin 8192) :
    ReferenceIdeal.Layer.quarter w (ReferenceIdeal.Layer.pref (ReferenceIdeal.Layer.vals p)) (ReferenceIdeal.Layer.vals p) n q
      = KernelIdeal.Layer.winSum w p n (KernelIdeal.Layer.lower q) * KernelIdeal.Layer.recip w n.val
        - p (ix2 n (KernelIdeal.Layer.lower q)) := by
  let f : ℕ → EReal := fun k => if h : k < 8192 then p (ix2 ⟨k, h⟩ (KernelIdeal.Layer.lower q)) else 0
  have hf : ∀ k, IsReal (f k) := fun k => by
    simp only [f]
    split_ifs
    · exact hp _
    · exact ⟨0, rfl⟩
  have hv : ∀ k : Fin 8192, ReferenceIdeal.Layer.vals p (ix2 k q) = f k.val := fun k => by
    rw [ReferenceIdeal.Layer.vals_at]
    simp only [f]
    rw [dif_pos k.isLt]
    rfl
  have hn := n.isLt
  unfold ReferenceIdeal.Layer.quarter KernelIdeal.Layer.recip
  have hc : ((min (n.val + 1) w : ℕ) : ℝ) ≠ 0 := by
    have : 0 < min (n.val + 1) w := by omega
    positivity
  rw [count_eq n.val w hn hw, Ideal.div_coe hc, ReferenceIdeal.Layer.vals_at]
  have hwin : (ReferenceIdeal.Layer.pref (ReferenceIdeal.Layer.vals p) (ix2 n q)
      - if h : w ≤ n.val ∧ n.val - w < 8192 then ReferenceIdeal.Layer.pref (ReferenceIdeal.Layer.vals p) (ix2 ⟨n.val - w, h.2⟩ q)
        else FloatOps.sitofp (F := Ideal) .f32 0#32) = KernelIdeal.Layer.winSum w p n (KernelIdeal.Layer.lower q) := by
    rw [ReferenceIdeal.Layer.pref_at _ q f hv n]
    have e : (if h : w ≤ n.val ∧ n.val - w < 8192 then ReferenceIdeal.Layer.pref (ReferenceIdeal.Layer.vals p) (ix2 ⟨n.val - w, h.2⟩ q)
        else FloatOps.sitofp (F := Ideal) .f32 0#32) = if w ≤ n.val then ∑ k ∈ Finset.range (n.val - w + 1), f k else 0 := by
      by_cases h : w ≤ n.val
      · rw [dif_pos ⟨h, by omega⟩, if_pos h, ReferenceIdeal.Layer.pref_at _ q f hv]
      · rw [dif_neg (fun h' => h h'.1), if_neg h]
        exact sitofp_zero
    rw [e, window_eq f hf n.val w]
    unfold KernelIdeal.Layer.winSum KernelIdeal.Layer.past
    refine Finset.sum_congr rfl fun s _ => ?_
    by_cases h : s ≤ n.val
    · rw [if_pos h, if_pos h]
      simp only [f]
      rw [dif_pos (by omega)]
    · rw [if_neg h, if_neg h]
  refine congrArg₂ (fun a b : EReal => a - b) (congrArg₂ (fun a b : EReal => a * b) hwin ?_) rfl
  rw [← EReal.coe_one, Ideal.div_coe hc, ← EReal.coe_mul, one_mul]

/-- The gated rows are the same. -/
theorem rows_eq (p : FVec Ideal S8192x16384 .f32) (hp : ∀ i, IsReal (p i)) (a3 : FVec Ideal S4x2048x2048 .f32) (a4 : FVec Ideal S4x2048 .f32)
    (a5 : FVec Ideal S8192 .f32) (n k : Fin 8192) :
    KernelIdeal.Layer.rows p a3 a4 a5 (ix2 n k)
      = ReferenceIdeal.Layer.mix a3 a4 a5 (ReferenceIdeal.Layer.parts (ReferenceIdeal.Layer.pref (ReferenceIdeal.Layer.vals p))
          (ReferenceIdeal.Layer.vals p)) (ix2 n k) * ReferenceIdeal.Layer.gated p (ix2 n k) := by
  rw [ReferenceIdeal.Layer.mix_at, ReferenceIdeal.Layer.gated_at, ← gate_eq (hp _)]
  have hk := k.isLt
  unfold KernelIdeal.Layer.rows KernelIdeal.Layer.mapped
  refine congrArg₂ (fun a b : EReal => a * b) (congrArg₂ (fun a b : EReal => a * b) (congrArg₂ (fun a b : EReal => a + b) ?_ ?_) ?_) rfl
  · refine Finset.sum_congr rfl fun x _ => ?_
    rw [ReferenceIdeal.Layer.parts_at]
    have hx := x.isLt
    have hw : 2 ^ (k.val / 2048 + 1) ≤ 16 := KernelIdeal.Layer.winSize k
    refine Eq.trans ?_ (congrArg (fun z : EReal => a3 _ * z)
      (quarter_eq p hp (2 ^ (k.val / 2048 + 1)) (by positivity) hw n ⟨2048 * (k.val / 2048) + x.val, by omega⟩).symm)
    rw [mul_comm]
    refine congrArg (fun z : EReal => a3 _ * z) ?_
    unfold KernelIdeal.Layer.avgDiff
    have e : (2048 * (k.val / 2048) + x.val) / 2048 = k.val / 2048 := by omega
    show KernelIdeal.Layer.winSum (2 ^ ((2048 * (k.val / 2048) + x.val) / 2048 + 1)) p n _
        * KernelIdeal.Layer.recip (2 ^ ((2048 * (k.val / 2048) + x.val) / 2048 + 1)) n.val - _ = _
    rw [e]
    rfl
  · pointwise
  · exact scale_row a5 _ k

/-- The layers are the same. -/
theorem layer_eq (a0 : FVec Ideal S8192x4096 .f32) (a1 : FVec Ideal S4096 .f32) (a2 : FVec Ideal S4096x16384 .f32)
    (a3 : FVec Ideal S4x2048x2048 .f32) (a4 : FVec Ideal S4x2048 .f32) (a5 : FVec Ideal S8192 .f32) (a6 : FVec Ideal S8192x4096 .f32)
    (h0 : ∀ i, IsReal (a0 i)) (h1 : ∀ i, IsReal (a1 i)) (h2 : ∀ i, IsReal (a2 i)) :
    KernelIdeal.Layer.layer a0 a1 a2 a3 a4 a5 a6 = ReferenceIdeal.Layer.layer a0 a1 a2 a3 a4 a5 a6 := by
  have hp := projected_isReal a0 a1 a2 h0 h1 h2
  funext i
  obtain ⟨n, k, rfl⟩ : ∃ (n : Fin 8192) (k : Fin 4096), i = ix2 n k := ⟨i 0, i 1, eq_ix2 i⟩
  unfold ReferenceIdeal.Layer.layer KernelIdeal.Layer.layer
  rw [← projected_eq]
  generalize KernelIdeal.Layer.projected a0 a1 a2 = p at hp ⊢
  refine Eq.trans ?_ (ReferenceIdeal.Layer.fin_at a0 a6 _ _ n k).symm
  have hr : ∀ q, KernelIdeal.Layer.rows p a3 a4 a5 (ix2 n q)
      = ReferenceIdeal.Layer.mix a3 a4 a5 (ReferenceIdeal.Layer.parts (ReferenceIdeal.Layer.pref (ReferenceIdeal.Layer.vals p))
          (ReferenceIdeal.Layer.vals p)) (ix2 n q) * ReferenceIdeal.Layer.gated p (ix2 n q) :=
    fun q => rows_eq p hp a3 a4 a5 n q
  simp only [← hr]
  generalize KernelIdeal.Layer.rows p a3 a4 a5 = y
  rw [Fin.sum_univ_add (a := 4096) (b := 4096) (fun q : Fin (4096 + 4096) => y (ix2 n q) * a6 (ix2 q k))]
  unfold KernelIdeal.Layer.result KernelIdeal.Layer.half
  show (∑ x : Fin 4096, _) + ((∑ x : Fin 4096, _) + a0 (ix2 n k)) = _
  rw [add_comm (a0 _), ← add_assoc, add_comm (∑ x : Fin 4096, y (ix2 n (Fin.castAdd 4096 x)) * a6 (ix2 (Fin.castAdd 4096 x) k)), add_assoc, add_assoc]
  refine congrArg₂ (fun a b : EReal => a + b) (Finset.sum_congr rfl fun x _ => ?_)
    (congrArg (fun z : EReal => z + _) (Finset.sum_congr rfl fun x _ => ?_))
  · rfl
  · have e : (⟨4096 * 0 + x.val, by omega⟩ : Fin 8192) = Fin.castAdd 4096 x := Fin.ext (by simp)
    show y (ix2 n ⟨4096 * 0 + x.val, _⟩) * a6 (ix2 ⟨4096 * 0 + x.val, _⟩ k) = _
    rw [e]

end Cert.Same
-- ==== Proof.Finite.lean ====
/-
  The precondition, read: the input, the norm's weight and the projection are real numbers.
-/
module

public import proofs.«01_k».proof.Proof.Math
public import proofs.«01_k».proof.Pre_finite_layer
public import Idealize.ShloMosaic.Lib.ReduceAll
public import Idealize.ShloMosaic.Lib.Affine

@[expose] public section

noncomputable section

namespace Cert.LayerMath

open Idealize.ShloMosaic

instance : Subsingleton (⟨0, ![]⟩ : Shape).Idx := ⟨fun a b => funext fun d => d.elim0⟩

/-- Where every magnitude compares below the largest extended real, every entry is a real number. -/
theorem isReal_of_all {s : Shape} (x : FVec Ideal s .f32) (b : FVec Ideal s .f32) (hb : ∀ i, b i = (⊤ : EReal))
    (init : IVec ⟨0, ![]⟩ 1) {axes : List (Fin s.rank)} (h : s.ReducesTo axes ⟨0, ![]⟩) (hu : 0 < (⟨0, ![]⟩ : Shape).numel) (j)
    (e : Host.reduce IntOp.andi (cmpf .olt (Host.absf x) b) init h hu j = 1#1) (i : s.Idx) : IsReal (x i) := by
  have h1 := Host.reduce_andi_all (cmpf .olt (Host.absf x) b) init h hu j e i
  have h2 : BitVec.ofBool (decide (max (x i : EReal) (-(x i : EReal)) < b i)) = 1#1 := h1
  rw [hb i] at h2
  refine IsReal.of_abs_lt ?_
  by_contra hn
  rw [decide_eq_false hn] at h2
  exact absurd h2 (by decide)

variable [Cert.Pre_finite_layer.Facts]

theorem finite_args (a0 a1 a2 a3 a4 a5 a6) (h : Cert.Pre_finite_layer.fn (F := Ideal) a0 a1 a2 a3 a4 a5 a6 = fun _ => 1#1) :
    (∀ i, IsReal (a0 i)) ∧ (∀ i, IsReal (a1 i)) ∧ (∀ i, IsReal (a2 i)) := by
  have hj := congrFun h (fun d => d.elim0)
  unfold Cert.Pre_finite_layer.fn at hj
  obtain ⟨h01, h2⟩ := (IntOp.andi_eq_one).1 hj
  obtain ⟨h0, h1⟩ := (IntOp.andi_eq_one).1 h01
  have hb {s : Shape} (hbc) : ∀ i, (broadcastInDim s ![] hbc (constant (F := Ideal) ⟨0, ![]⟩ .f32 0x7F800000#32)) i = (⊤ : EReal) :=
    fun i => ofBits_inf
  exact ⟨isReal_of_all a0 _ (hb _) _ _ _ _ h0, isReal_of_all a1 _ (hb _) _ _ _ _ h1, isReal_of_all a2 _ (hb _) _ _ _ _ h2⟩

end Cert.LayerMath
-- ==== Proof.SsdInRun.lean ====
/-
  The run of the SSD layer's norm and time-step projection, read at its results and its arguments.
-/
module

public import proofs.«01_k».proof.Proof.Gen.Kernel2Ideal.Frame

@[expose] public section

set_option maxRecDepth 16384

noncomputable section

namespace Cert.Kernel2Ideal.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the TensorCore's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The same, at the results and the arguments. -/
theorem run : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨h c _ (mem_uc main_v1 (by decide)),
       h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩) (run_all m ρ)

end Cert.Kernel2Ideal.Layer

end
-- ==== Proof.SsdIn.lean ====
/-
  The SSD layer's norm and time-step projection, over the extended reals: what the two launches leave, and that the
  reference leaves the same.
-/
module

public import proofs.«01_k».proof.Proof.SsdInRun
public import proofs.«01_k».proof.Proof.Proj
public import proofs.«01_k».proof.Proof.Gen.Reference2Ideal.Run
public import Idealize.ShloMosaic.Lib.StableHlo

@[expose] public section

set_option maxRecDepth 16384

noncomputable section

namespace Cert.Kernel2Ideal.Layer

open Cert.Kernel2Ideal Cert.Kernel2Ideal.Gen
open Idealize.ShloMosaic Idealize.ShloMosaic.TcCoe Idealize.SL.Sem
open Idealize.ShloMosaic.Pipeline (Dat)
open Cert.KernelIdeal.Layer (rms)

section
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y) :
    k0_pay1 (F := Ideal) (iblk0 V c 0 t) (iblk0 V c 1 t) y
      = rms (V c main_arg0) (V c main_v0) (((cfg0.win 2).blk t).view.emb y) := by
  pointwise [k0_pay1, rms]
  blk_point [iblk0, idx0 t]

/-- The first launch leaves the normalised rows. -/
theorem rms_arr (c : Dev nD) : (dat0 V c).arrAt 2 cfg0.N = rms (V c main_arg0) (V c main_v0) := by
  refine (dat0 V c).arrAt_eq_of_covers 2 _ (by decide +kernel) fun t _ y => ?_
  blk_simp
  rw [after0_2]; frame_out
  exact point0 V c t y

/-- The product of the rows of `u` with the last 128 columns of `w`. -/
def steps (u : FVec Ideal S8192x4096 .bf16) (w : FVec Ideal S4096x18560 .f32) : FVec Ideal S8192x128 .f32 := fun i =>
  ∑ k : Fin 4096, u (ix2 (i 0) k) * w (ix2 k ⟨18432 + (i 1).val, Nat.add_lt_add_left (i 1).isLt 18432⟩)

theorem idx1 : ∀ t : Fin cfg1.N, win1_0.index t = ![t.val, 0] ∧ win1_1.index t = ![0, 144]
    ∧ win1_2.index t = ![t.val, 0] :=
  (by decide +kernel : ∀ t : Fin grid1.N, _)

theorem point1 (c : Dev nD) (t : Fin cfg1.N) (y) :
    k1_pay1 (F := Ideal) (iblk1 V c 1 t) (iblk1 V c 0 t) y
      = steps (V c main_v1) (V c main_arg2) (((cfg1.win 2).blk t).view.emb y) := by
  pointwise [k1_pay1, steps]
  blk_point [iblk1, idx1 t]

/-- The second launch leaves that product. -/
theorem steps_arr (c : Dev nD) : (dat1 V c).arrAt 2 cfg1.N = steps (V c main_v1) (V c main_arg2) := by
  refine (dat1 V c).arrAt_eq_of_covers 2 _ (by decide +kernel) fun t _ y => ?_
  blk_simp
  rw [after1_2]; frame_out
  exact point1 V c t y
end

variable (m : (ℓ : Loc nD τ sig) → Buf (Elt Ideal) ℓ) (ρ : Dev nD → PrngReg) (c : Dev nD)

theorem V1_v0 : V1 m ρ c main_v0 = shapeCast S1x4096 (m ((c : Thread nD τ).loc main_arg1)) shapeCasts_S4096_S1x4096 := by
  show StableHlo.after hostOps0 (W0 m ρ c) (Proc.devRef .tc main_v0) = _
  after_results_simp
  rfl

theorem V2_v1 : V2 m ρ c main_v1 = rms (m ((c : Thread nD τ).loc main_arg0))
    (shapeCast S1x4096 (m ((c : Thread nD τ).loc main_arg1)) shapeCasts_S4096_S1x4096) := by
  refine (W2_arr m ρ c 2).trans ((rms_arr (V1 m ρ) c).trans ?_)
  rw [V1_v0 m ρ c]
  exact congrArg (fun x => rms x _) (W1_args m ρ c main_arg0 (by decide))

/-- The run leaves the normalised rows in its first result. -/
theorem rows_eq : W3 m ρ c (Proc.devRef .tc main_v1) = rms (m ((c : Thread nD τ).loc main_arg0))
    (shapeCast S1x4096 (m ((c : Thread nD τ).loc main_arg1)) shapeCasts_S4096_S1x4096) :=
  (W3_of m ρ c main_v1 (by decide)).trans (V2_v1 m ρ c)

/-- The run leaves the time steps in its second result. -/
theorem steps_eq : W3 m ρ c (Proc.devRef .tc main_v2) = steps (rms (m ((c : Thread nD τ).loc main_arg0))
    (shapeCast S1x4096 (m ((c : Thread nD τ).loc main_arg1)) shapeCasts_S4096_S1x4096)) (m ((c : Thread nD τ).loc main_arg2)) := by
  refine (W3_arr m ρ c 2).trans ((steps_arr (V2 m ρ) c).trans ?_)
  rw [V2_v1 m ρ c]
  exact congrArg (fun x => steps _ x) (W2_args m ρ c main_arg2 (by decide))

end Cert.Kernel2Ideal.Layer

namespace Cert.Reference2Ideal.Layer

open Cert.Reference2Ideal Cert.Reference2Ideal.Gen
open Idealize.ShloMosaic Idealize.ShloMosaic.TcCoe Idealize.SL.Sem

/-- The normalised rows. -/
def unit (a0 : FVec Ideal S8192x4096 .f32) (a1 : FVec Ideal S4096 .f32) : FVec Ideal S8192x4096 .f32 :=
  (mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1)))

/-- They are those of the kernel. -/
theorem unit_eq (a0 : FVec Ideal S8192x4096 .f32) (a1 : FVec Ideal S4096 .f32) (h) :
    unit a0 a1 = Cert.KernelIdeal.Layer.rms a0 (shapeCast Cert.KernelIdeal.S1x4096 a1 h) := by
  funext i
  obtain ⟨n, k, rfl⟩ : ∃ (n : Fin 8192) (k : Fin 4096), i = ix2 n k := ⟨i 0, i 1, eq_ix2 i⟩
  pointwise [unit, Cert.KernelIdeal.Layer.rms]

/-- The time steps, from the normalised rows. -/
def cols (u : FVec Ideal S8192x4096 .f32) (a2 : FVec Ideal S4096x18560 .f32) : FVec Ideal S8192x128 .f32 :=
  Host.dotGeneral dot_S8192x4096_S4096x128_S8192x128_1_0_0_1_n_n none u (extractStridedSlice S4096x128 ![0, 18432] a2 slices_S4096x18560_S4096x128_0_18432)

/-- They are those of the kernel. -/
theorem cols_eq (u : FVec Ideal S8192x4096 .f32) (a2 : FVec Ideal S4096x18560 .f32) : cols u a2 = Cert.Kernel2Ideal.Layer.steps u a2 := by
  funext i
  obtain ⟨n, k, rfl⟩ : ∃ (n : Fin 8192) (k : Fin 128), i = ix2 n k := ⟨i 0, i 1, eq_ix2 i⟩
  pointwise [cols, Cert.Kernel2Ideal.Layer.steps]

end Cert.Reference2Ideal.Layer
-- ==== Proof.SsdWide.lean ====
/-
  The SSD layer's wide input projection, over the extended reals: the launch leaves the reference's product.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Layer

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the rows of `u` with the first 18432 columns of `w`. -/
def wide (u : FVec Ideal S8192x4096 .bf16) (w : FVec Ideal S4096x18560 .f32) : FVec Ideal S8192x18432 .f32 := fun i =>
  ∑ k : Fin 4096, u (ix2 (i 0) k) * w (ix2 k ⟨(i 1).val, Nat.lt_trans (i 1).isLt (by decide)⟩)

theorem idx0 : ∀ t : Fin cfg0.N, win0_0.index t = ![t.val / 36, 0] ∧ win0_1.index t = ![0, t.val % 36]
    ∧ win0_2.index t = ![t.val / 36, t.val % 36] :=
  (by decide +kernel : ∀ t : Fin grid0.N, _)

/-- The fetched columns, read off the array. -/
theorem cols_at (c : Dev nD) (t : Fin cfg0.N) (k : Fin 4096) (j : Fin 512) : X0_1 m c t (ix2 k j)
    = V m c main_arg1 (ix2 k ⟨512 * (t.val % 36) + j.val, by have := Nat.mod_lt t.val (show 36 > 0 by omega); omega⟩) := by
  unfold X0_1 Pipeline.Window.fill
  rw [dif_pos (moved0_1 t (ix2 k j))]
  show V m c main_arg1 (((cfg0.win 1).blk t).view.emb _) = _
  blk_ext [idx0 t]

/-- What the body stores. -/
theorem pay_eq (x0 : FVec Ideal S2048x4096 .bf16) (x1 : FVec Ideal S4096x512 .f32) (y) :
    k0_pay1 (F := Ideal) x1 x0 y = ∑ k : Fin 4096, x0 (ix2 (y 0) k) * x1 (ix2 k (y 1)) := by
  pointwise [k0_pay1]

theorem point0 (c : Dev nD) (t : Fin cfg0.N) (y) :
    k0_pay1 (F := Ideal) (X0_1 m c t) (iblk m c 0 t) y
      = wide (V m c main_arg0) (V m c main_arg1) (((cfg0.win 2).blk t).view.emb y) := by
  refine (pay_eq (iblk m c 0 t) (X0_1 m c t) y).trans (Finset.sum_congr rfl fun k _ => congrArg₂ (· * ·) ?_ ((cols_at m c t k (y 1)).trans ?_))
  · blk_ext [iblk, idx0 t]
  · blk_ext [idx0 t]

/-- The launch leaves that product. -/
theorem wide_arr (c : Dev nD) : (dats m 0 c).arrAt 2 cfg0.N = wide (V m c main_arg0) (V m c main_arg1) := by
  refine (dats m 0 c).arrAt_eq_of_covers 2 _ (by decide +kernel) fun t _ y => ?_
  blk_simp
  rw [after0_2]
  unfold outsAt0 out0_A_2
  frame_out
  exact point0 m c t y

end Cert.Kernel7Ideal.Layer

namespace Cert.Reference7Ideal.Layer

open Cert.Reference7Ideal Cert.Reference7Ideal.Gen
open Idealize.ShloMosaic Idealize.ShloMosaic.TcCoe Idealize.SL.Sem

/-- The reference's result. -/
def out (u : FVec Ideal S8192x4096 .bf16) (w : FVec Ideal S4096x18560 .f32) : FVec Ideal S8192x18432 .f32 :=
  Host.dotGeneral dot_S8192x4096_S4096x18432_S8192x18432_1_0_0_1_n_n none (extf .f32 u bitsLt_bf16_f32) (extractStridedSlice S4096x18432 ![0, 0] w slices_S4096x18560_S4096x18432_0_0)

/-- It is what the kernel leaves. -/
theorem out_eq (u : FVec Ideal S8192x4096 .bf16) (w : FVec Ideal S4096x18560 .f32) : Cert.Kernel7Ideal.Layer.wide u w = out u w := by
  funext i
  obtain ⟨n, k, rfl⟩ : ∃ (n : Fin 8192) (k : Fin 18432), i = ix2 n k := ⟨i 0, i 1, eq_ix2 i⟩
  pointwise [out, Cert.Kernel7Ideal.Layer.wide]

end Cert.Reference7Ideal.Layer
-- ==== Proof.SsdOutRun.lean ====
/-
  The run of the SSD layer's output projection, read at its result and its arguments.
-/
module

public import proofs.«01_k».proof.Proof.Gen.Kernel3Ideal.Frame

@[expose] public section

set_option maxRecDepth 16384

noncomputable section

namespace Cert.Kernel3Ideal.Layer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the TensorCore's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The same, at the results and the arguments. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩) (run_all m ρ)

end Cert.Kernel3Ideal.Layer

end
-- ==== Proof.SsdOut.lean ====
/-
  The SSD layer's output projection, over the extended reals: two launches, each of which adds to its third operand the
  product over one half of the contracted axis; together they leave the reference's product added to the hidden state.
-/
module

public import proofs.«01_k».proof.Proof.SsdOutRun
public import proofs.«01_k».proof.Proof.Out
public import proofs.«01_k».proof.Proof.Gen.Reference3Ideal.Run

@[expose] public section

set_option maxRecDepth 16384

noncomputable section

namespace Cert.Kernel3Ideal.Layer

open Cert.Kernel3Ideal Cert.Kernel3Ideal.Gen
open Idealize.ShloMosaic Idealize.ShloMosaic.TcCoe Idealize.SL.Sem
open Idealize.ShloMosaic.Pipeline (Dat)
open Cert.KernelIdeal.Layer (half halfBlk)

/-- One strip of 256 rows of a block. -/
theorem strip (x0 : FVec Ideal S256x4096 .bf16) (x1 : FVec Ideal S4096x512 .f32) (x2 : FVec Ideal S256x512 .f32) (y) :
    k0_pay6 (F := Ideal) x1 x0 x2 y = (∑ k : Fin 4096, x0 (ix2 (y 0) k) * x1 (ix2 k (y 1))) + x2 y := by
  pointwise [k0_pay6, k0_pay5]

section
variable (V : (c : Dev nD) → (b : Ref sig .tc) → Buf (Elt Ideal) ((c : Thread nD τ).loc b))

theorem out0_blk (x0 : FVec Ideal S2048x4096 .bf16) (x1 : FVec Ideal S4096x512 .f32) (x2 : FVec Ideal S2048x512 .f32) (j) :
    out0_3 (F := Ideal) x0 x1 x2 j = halfBlk x0 x1 x2 j := by
  unfold out0_3
  canon_tiles x h
  all_goals
    refine (strip _ _ _ _).trans ?_
    have e0 : j 0 = ⟨_, h0 ▸ (j 0).isLt⟩ := Fin.ext h0
    have e1 : j 1 = x 1 := Fin.ext h1
    simp only [halfBlk]
    rw [e0, e1]
    pointwise

theorem idx0 : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

theorem point0 (c : Dev nD) (t : Fin cfg0.N) (y) :
    halfBlk (iblk0 V c 0 t) (iblk0 V c 1 t) (iblk0 V c 2 t) y
      = half 0 (by omega) (V c main_arg0) (V c main_arg1) (V c main_arg2) (((cfg0.win 3).blk t).view.emb y) := by
  pointwise [halfBlk, half]
  blk_point [iblk0, idx0 t]

/-- The launch leaves that half of the product, added to its third operand. -/
theorem half0_arr (c : Dev nD) :
    (dat0 V c).arrAt 3 cfg0.N = half 0 (by omega) (V c main_arg0) (V c main_arg1) (V c main_arg2) := by
  refine (dat0 V c).arrAt_eq_of_covers 3 _ (by decide +kernel) fun t _ y => ?_
  blk_simp
  rw [after0_3]
  exact (out0_blk _ _ _ y).trans (point0 V c t y)

theorem out1_blk (x0 : FVec Ideal S2048x4096 .bf16) (x1 : FVec Ideal S4096x512 .f32) (x2 : FVec Ideal S2048x512 .f32) (j) :
    out1_3 (F := Ideal) x0 x1 x2 j = halfBlk x0 x1 x2 j := by
  unfold out1_3
  canon_tiles x h
  all_goals
    refine (strip _ _ _ _).trans ?_
    have e0 : j 0 = ⟨_, h0 ▸ (j 0).isLt⟩ := Fin.ext h0
    have e1 : j 1 = x 1 := Fin.ext h1
    simp only [halfBlk]
    rw [e0, e1]
    pointwise

theorem idx1 : ∀ t : Fin cfg1.N, win1_0.index t = ![t.val / 8, 1] ∧ win1_1.index t = ![1, t.val % 8]
    ∧ win1_2.index t = ![t.val / 8, t.val % 8] ∧ win1_3.index t = ![t.val / 8, t.val % 8] :=
  (by decide +kernel : ∀ t : Fin grid1.N, _)

theorem point1 (c : Dev nD) (t : Fin cfg1.N) (y) :
    halfBlk (iblk1 V c 0 t) (iblk1 V c 1 t) (iblk1 V c 2 t) y
      = half 1 (by omega) (V c main_arg0) (V c main_arg1) (V c main_v0) (((cfg1.win 3).blk t).view.emb y) := by
  pointwise [halfBlk, half]
  blk_point [iblk1, idx1 t]

/-- The launch leaves that half of the product, added to its third operand. -/
theorem half1_arr (c : Dev nD) :
    (dat1 V c).arrAt 3 cfg1.N = half 1 (by omega) (V c main_arg0) (V c main_arg1) (V c main_v0) := by
  refine (dat1 V c).arrAt_eq_of_covers 3 _ (by decide +kernel) fun t _ y => ?_
  blk_simp
  rw [after1_3]
  exact (out1_blk _ _ _ y).trans (point1 V c t y)

end

variable (m : (ℓ : Loc nD τ sig) → Buf (Elt Ideal) ℓ) (ρ : Dev nD → PrngReg) (c : Dev nD)

/-- The run leaves both halves of the product added to the hidden state. -/
theorem result_eq : W2 m ρ c (Proc.devRef .tc main_v1) = half 1 (by omega) (m ((c : Thread nD τ).loc main_arg0)) (m ((c : Thread nD τ).loc main_arg1))
    (half 0 (by omega) (m ((c : Thread nD τ).loc main_arg0)) (m ((c : Thread nD τ).loc main_arg1)) (m ((c : Thread nD τ).loc main_arg2))) := by
  have e : V1 m ρ c main_v0 = half 0 (by omega) (m ((c : Thread nD τ).loc main_arg0)) (m ((c : Thread nD τ).loc main_arg1))
      (m ((c : Thread nD τ).loc main_arg2)) := (W1_arr m ρ c 3).trans (half0_arr (V0 m ρ) c)
  refine (W2_arr m ρ c 3).trans ((half1_arr (V1 m ρ) c).trans ?_)
  rw [e]
  exact congrArg₂ (fun x y => half 1 (by omega) x y _) (W1_args m ρ c main_arg0 (by decide)) (W1_args m ρ c main_arg1 (by decide))

end Cert.Kernel3Ideal.Layer

namespace Cert.Reference3Ideal.Layer

open Cert.Reference3Ideal Cert.Reference3Ideal.Gen
open Idealize.ShloMosaic Idealize.ShloMosaic.TcCoe Idealize.SL.Sem

/-- The reference's result. -/
def out (y : FVec Ideal S8192x8192 .bf16) (w h : FVec Ideal S8192x4096 .f32) : FVec Ideal S8192x4096 .f32 :=
  addf h (Host.dotGeneral dot_S8192x8192_S8192x4096_S8192x4096_1_0_0_1_n_n none (extf .f32 y bitsLt_bf16_f32) w)

theorem out_at (y : FVec Ideal S8192x8192 .bf16) (w h : FVec Ideal S8192x4096 .f32) (n : Fin 8192) (k : Fin 4096) :
    out y w h (ix2 n k) = h (ix2 n k) + ∑ q : Fin 8192, y (ix2 n q) * w (ix2 q k) := by
  pointwise [out]

/-- The two halves are the reference's product. -/
theorem out_eq (y : FVec Ideal S8192x8192 .bf16) (w h : FVec Ideal S8192x4096 .f32) :
    Cert.KernelIdeal.Layer.half 1 (by omega) y w (Cert.KernelIdeal.Layer.half 0 (by omega) y w h) = out y w h := by
  funext i
  obtain ⟨n, k, rfl⟩ : ∃ (n : Fin 8192) (k : Fin 4096), i = ix2 n k := ⟨i 0, i 1, eq_ix2 i⟩
  rw [out_at, Fin.sum_univ_add (a := 4096) (b := 4096) (fun q : Fin (4096 + 4096) => y (ix2 n q) * w (ix2 q k))]
  have lo : ∀ x : Fin 4096, (⟨4096 * 0 + x.val, by omega⟩ : Fin 8192) = Fin.castAdd 4096 x := fun x => Fin.ext (by simp)
  have hi : ∀ x : Fin 4096, (⟨4096 * 1 + x.val, by omega⟩ : Fin 8192) = Fin.natAdd 4096 x := fun x => Fin.ext (by simp [Nat.add_comm])
  show (∑ x : Fin 4096, y (ix2 n ⟨4096 * 1 + x.val, _⟩) * w (ix2 ⟨4096 * 1 + x.val, _⟩ k))
    + ((∑ x : Fin 4096, y (ix2 n ⟨4096 * 0 + x.val, _⟩) * w (ix2 ⟨4096 * 0 + x.val, _⟩ k)) + h (ix2 n k)) = _
  simp only [lo, hi]
  exact (add_comm _ _).trans ((congrArg (· + _) (add_comm _ _)).trans (add_assoc _ _ _))

end Cert.Reference3Ideal.Layer
-- ==== Proof.MobaInRun.lean ====
/-
  The run of the MoBA layer's norm and input projection, read at its result and its arguments.
-/
module

public import proofs.«01_k».proof.Proof.Gen.Kernel4Ideal.Frame

@[expose] public section

set_option maxRecDepth 16384

noncomputable section

namespace Cert.Kernel4Ideal.Layer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the TensorCore's buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The same, at the results and the arguments. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩) (run_all m ρ)

end Cert.Kernel4Ideal.Layer

end
-- ==== Proof.MobaIn.lean ====
/-
  The MoBA layer's norm and input projection, over the extended reals: what the two launches leave, and that the
  reference leaves the same.
-/
module

public import proofs.«01_k».proof.Proof.MobaInRun
public import proofs.«01_k».proof.Proof.Proj
public import proofs.«01_k».proof.Proof.Gen.Reference4Ideal.Run
public import Idealize.ShloMosaic.Lib.StableHlo

@[expose] public section

set_option maxRecDepth 16384

noncomputable section

namespace Cert.Kernel4Ideal.Layer

open Cert.Kernel4Ideal Cert.Kernel4Ideal.Gen
open Idealize.ShloMosaic Idealize.ShloMosaic.TcCoe Idealize.SL.Sem
open Idealize.ShloMosaic.Pipeline (Dat)
open Cert.KernelIdeal.Layer (rms proj)

section
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y) :
    k0_pay1 (F := Ideal) (iblk0 V c 0 t) (iblk0 V c 1 t) y
      = rms (V c main_arg0) (V c main_v0) (((cfg0.win 2).blk t).view.emb y) := by
  pointwise [k0_pay1, rms]
  blk_point [iblk0, idx0 t]

/-- The first launch leaves the normalised rows. -/
theorem rms_arr (c : Dev nD) : (dat0 V c).arrAt 2 cfg0.N = rms (V c main_arg0) (V c main_v0) := by
  refine (dat0 V c).arrAt_eq_of_covers 2 _ (by decide +kernel) fun t _ y => ?_
  blk_simp
  rw [after0_2]; frame_out
  exact point0 V c t y

theorem idx1 : ∀ t : Fin cfg1.N, win1_0.index t = ![t.val / 32, 0] ∧ win1_1.index t = ![0, t.val % 32]
    ∧ win1_2.index t = ![t.val / 32, t.val % 32] :=
  (by decide +kernel : ∀ t : Fin grid1.N, _)

theorem point1 (c : Dev nD) (t : Fin cfg1.N) (y) :
    k1_pay1 (F := Ideal) (iblk1 V c 1 t) (iblk1 V c 0 t) y
      = proj (V c main_v1) (V c main_arg2) (((cfg1.win 2).blk t).view.emb y) := by
  pointwise [k1_pay1, proj]
  blk_point [iblk1, idx1 t]

/-- The second launch leaves that product. -/
theorem proj_arr (c : Dev nD) : (dat1 V c).arrAt 2 cfg1.N = proj (V c main_v1) (V c main_arg2) := by
  refine (dat1 V c).arrAt_eq_of_covers 2 _ (by decide +kernel) fun t _ y => ?_
  blk_simp
  rw [after1_2]; frame_out
  exact point1 V c t y

end

variable (m : (ℓ : Loc nD τ sig) → Buf (Elt Ideal) ℓ) (ρ : Dev nD → PrngReg) (c : Dev nD)

theorem V1_v0 : V1 m ρ c main_v0 = shapeCast S1x4096 (m ((c : Thread nD τ).loc main_arg1)) shapeCasts_S4096_S1x4096 := by
  show StableHlo.after hostOps0 (W0 m ρ c) (Proc.devRef .tc main_v0) = _
  after_results_simp
  rfl

theorem V2_v1 : V2 m ρ c main_v1 = rms (m ((c : Thread nD τ).loc main_arg0))
    (shapeCast S1x4096 (m ((c : Thread nD τ).loc main_arg1)) shapeCasts_S4096_S1x4096) := by
  refine (W2_arr m ρ c 2).trans ((rms_arr (V1 m ρ) c).trans ?_)
  rw [V1_v0 m ρ c]
  exact congrArg (fun x => rms x _) (W1_args m ρ c main_arg0 (by decide))

/-- The run leaves the projected rows in its result. -/
theorem result_eq : W3 m ρ c (Proc.devRef .tc main_v2) = proj (rms (m ((c : Thread nD τ).loc main_arg0))
    (shapeCast S1x4096 (m ((c : Thread nD τ).loc main_arg1)) shapeCasts_S4096_S1x4096)) (m ((c : Thread nD τ).loc main_arg2)) := by
  refine (W3_arr m ρ c 2).trans ((proj_arr (V2 m ρ) c).trans ?_)
  rw [V2_v1 m ρ c]
  exact congrArg (fun x => proj _ x) (W2_args m ρ c main_arg2 (by decide))

end Cert.Kernel4Ideal.Layer

namespace Cert.Reference4Ideal.Layer

open Cert.Reference4Ideal Cert.Reference4Ideal.Gen
open Idealize.ShloMosaic Idealize.ShloMosaic.TcCoe Idealize.SL.Sem

/-- The normalised rows. -/
def unit (a0 : FVec Ideal S8192x4096 .f32) (a1 : FVec Ideal S4096 .f32) : FVec Ideal S8192x4096 .f32 :=
  (mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1)))

/-- They are those of the kernel. -/
theorem unit_eq (a0 : FVec Ideal S8192x4096 .f32) (a1 : FVec Ideal S4096 .f32) (h) :
    unit a0 a1 = Cert.KernelIdeal.Layer.rms a0 (shapeCast Cert.KernelIdeal.S1x4096 a1 h) := by
  funext i
  obtain ⟨n, k, rfl⟩ : ∃ (n : Fin 8192) (k : Fin 4096), i = ix2 n k := ⟨i 0, i 1, eq_ix2 i⟩
  pointwise [unit, Cert.KernelIdeal.Layer.rms]

/-- The product, from the normalised rows. -/
def wide (u : FVec Ideal S8192x4096 .f32) (a2 : FVec Ideal S4096x16384 .f32) : FVec Ideal S8192x16384 .bf16 :=
  truncf .bf16 (Host.dotGeneral dot_S8192x4096_S4096x16384_S8192x16384_1_0_0_1_n_n none u a2) bitsLt_bf16_f32

/-- It is that of the kernel. -/
theorem wide_eq (u : FVec Ideal S8192x4096 .f32) (a2 : FVec Ideal S4096x16384 .f32) : wide u a2 = Cert.KernelIdeal.Layer.proj u a2 := by
  funext i
  obtain ⟨n, k, rfl⟩ : ∃ (n : Fin 8192) (k : Fin 16384), i = ix2 n k := ⟨i 0, i 1, eq_ix2 i⟩
  pointwise [wide, Cert.KernelIdeal.Layer.proj]

end Cert.Reference4Ideal.Layer
-- ==== Proof.MobaOut.lean ====
/-
  The MoBA layer's output projection, over the extended reals: the launch leaves the reference's product added to the
  hidden state.
-/
module

public import proofs.«01_k».proof.Proof.Gen.Kernel5Ideal.Frame
public import proofs.«01_k».proof.Proof.Out
public import proofs.«01_k».proof.Proof.Gen.Reference5Ideal.Run

@[expose] public section

set_option maxRecDepth 16384

noncomputable section

namespace Cert.Kernel5Ideal.Layer

open Cert.Kernel5Ideal Cert.Kernel5Ideal.Gen
open Idealize.ShloMosaic Idealize.ShloMosaic.TcCoe Idealize.SL.Sem
open Idealize.ShloMosaic.Pipeline (Dat)
open Cert.KernelIdeal.Layer (halfBlk)

variable (m : (ℓ : Loc nD τ sig) → Buf (Elt Ideal) ℓ) (ρ : Dev nD → PrngReg)

/-- The product of the rows of `y` with the columns of `w`, added to `h`. -/
def sum (y : FVec Ideal S8192x4096 .bf16) (w : FVec Ideal S4096x4096 .f32) (h : FVec Ideal S8192x4096 .f32) :
    FVec Ideal S8192x4096 .f32 := fun i => (∑ k : Fin 4096, y (ix2 (i 0) k) * w (ix2 k (i 1))) + h i

/-- One strip of 256 rows of a block. -/
theorem strip (x0 : FVec Ideal S256x4096 .bf16) (x1 : FVec Ideal S4096x512 .f32) (x2 : FVec Ideal S256x512 .f32) (y) :
    k0_pay6 (F := Ideal) x1 x0 x2 y = (∑ k : Fin 4096, x0 (ix2 (y 0) k) * x1 (ix2 k (y 1))) + x2 y := by
  pointwise [k0_pay6, k0_pay5]

theorem out0_blk (x0 : FVec Ideal S2048x4096 .bf16) (x1 : FVec Ideal S4096x512 .f32) (x2 : FVec Ideal S2048x512 .f32) (j) :
    out0_3 (F := Ideal) x0 x1 x2 j = halfBlk x0 x1 x2 j := by
  unfold out0_3
  canon_tiles x h
  all_goals
    refine (strip _ _ _ _).trans ?_
    have e0 : j 0 = ⟨_, h0 ▸ (j 0).isLt⟩ := Fin.ext h0
    have e1 : j 1 = x 1 := Fin.ext h1
    simp only [halfBlk]
    rw [e0, e1]
    pointwise

theorem idx0 : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

theorem point0 (c : Dev nD) (t : Fin cfg0.N) (y) :
    halfBlk (iblk m c 0 t) (iblk m c 1 t) (iblk m c 2 t) y
      = sum (V m c main_arg0) (V m c main_arg1) (V m c main_arg2) (((cfg0.win 3).blk t).view.emb y) := by
  pointwise [halfBlk, sum]
  blk_point [iblk, idx0 t]

/-- The launch leaves the product, added to its third operand. -/
theorem sum_arr (c : Dev nD) :
    (dats m 0 c).arrAt 3 cfg0.N = sum (V m c main_arg0) (V m c main_arg1) (V m c main_arg2) := by
  refine (dats m 0 c).arrAt_eq_of_covers 3 _ (by decide +kernel) fun t _ y => ?_
  blk_simp
  rw [after0_3]
  exact (out0_blk _ _ _ y).trans (point0 m c t y)

/-- The run, read at the result and the arguments. -/
theorem run : θ_run defs (onTc (τ := τ) (main (F := Ideal))) ⟨m, fun _ => 0, ρ⟩ (fun r => ∀ c : Dev nD,
      r.2.mem ((c.tc : Thread nD τ).loc main_v0) = sum (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).trans (sum_arr m c), h.2 c⟩)
    (θ_run_and ((θ_run defs _ _).mono (fun r h c => (h c).1 3) (run_main m ρ)) (unchanged m ρ))

end Cert.Kernel5Ideal.Layer

namespace Cert.Reference5Ideal.Layer

open Cert.Reference5Ideal Cert.Reference5Ideal.Gen
open Idealize.ShloMosaic Idealize.ShloMosaic.TcCoe Idealize.SL.Sem

/-- The reference's result. -/
def out (y : FVec Ideal S8192x4096 .bf16) (w : FVec Ideal S4096x4096 .f32) (h : FVec Ideal S8192x4096 .f32) : FVec Ideal S8192x4096 .f32 :=
  addf h (Host.dotGeneral dot_S8192x4096_S4096x4096_S8192x4096_1_0_0_1_n_n none (extf .f32 y bitsLt_bf16_f32) w)

theorem out_at (y : FVec Ideal S8192x4096 .bf16) (w : FVec Ideal S4096x4096 .f32) (h : FVec Ideal S8192x4096 .f32) (n : Fin 8192) (k : Fin 4096) :
    out y w h (ix2 n k) = h (ix2 n k) + ∑ q : Fin 4096, y (ix2 n q) * w (ix2 q k) := by
  pointwise [out]

/-- It is what the kernel leaves. -/
theorem out_eq (y : FVec Ideal S8192x4096 .bf16) (w : FVec Ideal S4096x4096 .f32) (h : FVec Ideal S8192x4096 .f32) :
    Cert.Kernel5Ideal.Layer.sum y w h = out y w h := by
  funext i
  obtain ⟨n, k, rfl⟩ : ∃ (n : Fin 8192) (k : Fin 4096), i = ix2 n k := ⟨i 0, i 1, eq_ix2 i⟩
  rw [out_at]
  exact add_comm _ _

end Cert.Reference5Ideal.Layer
-- ==== Proof.MobaPrep.lean ====
/-
  The MoBA layer's preparation of queries, keys and values, over the extended reals: each block of 256 rows holds the
  normalised heads of the queries, scaled, those of the keys beside the block's number, and the values beside ones.
-/
module

public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Kernel8Ideal.Layer

open Cert.Kernel8Ideal Cert.Kernel8Ideal.Gen
open Idealize.ShloMosaic Idealize.ShloMosaic.TcCoe Idealize.SL.Sem
open Idealize.ShloMosaic.Pipeline (Dat)

/-- One row of 128 numbers, divided by the root of its mean square. -/
def unit (f : Fin 128 → EReal) (k : Fin 128) : EReal :=
  f k * Ideal.rsqrt (Ideal.div (∑ n : Fin 128, f n * f n) (Ideal.ofBits .f32 0x43000000#32) + Ideal.ofBits .f32 0x358637BD#32)

/-- The row `r` of a strip. -/
def row (v : FVec Ideal S256x128 .bf16) (r : Fin 256) : Fin 128 → EReal := fun k => v (ix2 r k)

/-- The scaled query head of one strip. -/
theorem strip_q (w : FVec Ideal S1x128 .f32) (v : FVec Ideal S256x128 .bf16) (y : S256x128.Idx) :
    k0_pay7 (F := Ideal) w v y = unit (row v (y 0)) (y 1) * (w (ix2 0 (y 1)) * Ideal.ofBits .f32 0x3E0293EE#32) := by
  pointwise [k0_pay7, k0_pay3, unit, row]

/-- The key head of one strip, before it is rounded. -/
theorem strip_k (w : FVec Ideal S1x128 .f32) (v : FVec Ideal S256x128 .bf16) (y : S256x128.Idx) :
    k0_pay10 (F := Ideal) (k0_pay4 w) (k0_pay8 v) (k0_pay9 v) y = unit (row v (y 0)) (y 1) * w (ix2 0 (y 1)) := by
  pointwise [k0_pay10, k0_pay4, k0_pay8, k0_pay9, unit, row]

/-- The same, rounded. -/
theorem strip_key (w : FVec Ideal S1x128 .f32) (v : FVec Ideal S256x128 .bf16) (y : S256x128.Idx) :
    k0_pay11 (F := Ideal) (k0_pay4 w) (k0_pay8 v) (k0_pay9 v) y = unit (row v (y 0)) (y 1) * w (ix2 0 (y 1)) :=
  strip_k w v y

/-- The mean of the key head over the rows of one strip. -/
theorem strip_mean (w : FVec Ideal S1x128 .f32) (v : FVec Ideal S256x128 .bf16) (k : Fin 128) :
    k0_pay12 (F := Ideal) (k0_pay4 w) (k0_pay8 v) (k0_pay9 v) (ix2 0 k)
      = Ideal.div (∑ r : Fin 256, unit (row v r) k * w (ix2 0 k)) (Ideal.ofBits .f32 0x43800000#32) := by
  have h : ∀ r : Fin 256, k0_pay10 (F := Ideal) (k0_pay4 w) (k0_pay8 v) (k0_pay9 v) (ix2 r k) = unit (row v r) k * w (ix2 0 k) :=
    fun r => strip_k w v (ix2 r k)
  simp only [← h]
  pointwise [k0_pay12]

/-- A choice by the equality of two small numbers. -/
theorem pick (a b : ℕ) (ha : a < 2 ^ 32) (hb : b < 2 ^ 32) (u v : EReal) :
    Scalar.select (IntOp.cmpi .eq (BitVec.ofNat 32 a) (BitVec.ofNat 32 b)) u v = if a = b then u else v := by
  rw [WordCmp.cmpi_eq_ofNat ha hb]
  by_cases h : a = b
  · rw [if_pos h, decide_eq_true h]
    exact ValueIdx.select_one _ _
  · rw [if_neg h, decide_eq_false h]
    exact ValueIdx.select_zero _ _

/-- A grid point's number is small. -/
theorem point_lt (i : grid0.Coords) : (i 0).val < 32 := (i 0).isLt

/-- The number of the block, marked among 128. -/
theorem strip_hot (i : grid0.Coords) (y : S256x128.Idx) : k0_pay5 (F := Ideal) i y
    = if (y 1).val = (i 0).val then Ideal.ofBits .f32 0x3F800000#32 else Ideal.ofBits .f32 0x00000000#32 := by
  have h1 : (y 1).val < 128 := (y 1).isLt
  have h2 := point_lt i
  refine Eq.trans ?_ (pick (y 1).val (i 0).val (by omega) (by omega) _ _)
  pointwise [k0_pay5]

theorem strip_one (y : S256x128.Idx) : k0_pay6 (F := Ideal) y = Ideal.ofBits .bf16 0x3F80#16 := by
  pointwise [k0_pay6]

/-- The row `r` of the head at column `b`. -/
def head (x : FVec Ideal S256x4096 .bf16) (h : ℕ) (hh : h < 32) (r : Fin 256) : Fin 128 → EReal :=
  fun k => x (ix2 r ⟨128 * h + k.val, by omega⟩)

/-- The block of queries. -/
def qBlk (x0 : FVec Ideal S256x4096 .bf16) (x3 : FVec Ideal S1x128 .f32) (j : S256x4096.Idx) : EReal :=
  unit (head x0 ((j 1).val / 128) (by have := (j 1).isLt; change _ < 4096 at this; omega) (j 0)) ⟨(j 1).val % 128, by omega⟩
    * (x3 (ix2 0 ⟨(j 1).val % 128, by omega⟩) * Ideal.ofBits .f32 0x3E0293EE#32)

/-- A strip that holds head `h` stores its part of the block of queries. -/
theorem tile_q (x0 : FVec Ideal S256x4096 .bf16) (x3 : FVec Ideal S1x128 .f32) (h : ℕ) (hh : h < 32)
    (v : FVec Ideal S256x128 .bf16) (hv : ∀ r, row v r = head x0 h hh r) (j : S256x4096.Idx) (y : S256x128.Idx)
    (h0 : (j 0).val = (y 0).val) (h1 : (j 1).val = 128 * h + (y 1).val) : k0_pay7 (F := Ideal) x3 v y = qBlk x0 x3 j := by
  obtain ⟨r, k, rfl⟩ : ∃ (r : Fin 256) (k : Fin 128), y = ix2 r k := ⟨y 0, y 1, eq_ix2 y⟩
  obtain ⟨n, q, rfl⟩ : ∃ (n : Fin 256) (q : Fin 4096), j = ix2 n q := ⟨j 0, j 1, eq_ix2 j⟩
  change n.val = r.val at h0
  change q.val = 128 * h + k.val at h1
  have e1 : (⟨q.val % 128, by omega⟩ : Fin 128) = k := Fin.ext (by show q.val % 128 = _; omega)
  have e : h = q.val / 128 := by omega
  obtain rfl := Fin.ext h0
  refine (strip_q x3 v _).trans ?_
  show unit (row v n) k * (x3 (ix2 0 k) * _) = unit (head x0 (q.val / 128) _ n) ⟨q.val % 128, _⟩ * (x3 (ix2 0 ⟨q.val % 128, _⟩) * _)
  simp only [e1, hv]
  subst e
  rfl

/-- The block of keys: each head beside the marked block number. -/
def kBlk (t : ℕ) (x1 : FVec Ideal S256x4096 .bf16) (x4 : FVec Ideal S1x128 .f32) (j : S256x8192.Idx) : EReal :=
  if (j 1).val % 256 < 128 then
    unit (head x1 ((j 1).val / 256) (by have := (j 1).isLt; change _ < 8192 at this; omega) (j 0)) ⟨(j 1).val % 128, by omega⟩
      * x4 (ix2 0 ⟨(j 1).val % 128, by omega⟩)
  else if (j 1).val % 128 = t then Ideal.ofBits .f32 0x3F800000#32 else Ideal.ofBits .f32 0x00000000#32

/-- A strip that holds head `h` stores its part of the block of keys. -/
theorem tile_k (t : ℕ) (x1 : FVec Ideal S256x4096 .bf16) (x4 : FVec Ideal S1x128 .f32) (h : ℕ) (hh : h < 32)
    (v : FVec Ideal S256x128 .bf16) (hv : ∀ r, row v r = head x1 h hh r) (j : S256x8192.Idx) (y : S256x128.Idx)
    (h0 : (j 0).val = (y 0).val) (h1 : (j 1).val = 256 * h + (y 1).val) :
    k0_pay11 (F := Ideal) (k0_pay4 x4) (k0_pay8 v) (k0_pay9 v) y = kBlk t x1 x4 j := by
  obtain ⟨r, k, rfl⟩ : ∃ (r : Fin 256) (k : Fin 128), y = ix2 r k := ⟨y 0, y 1, eq_ix2 y⟩
  obtain ⟨n, q, rfl⟩ : ∃ (n : Fin 256) (q : Fin 8192), j = ix2 n q := ⟨j 0, j 1, eq_ix2 j⟩
  change n.val = r.val at h0
  change q.val = 256 * h + k.val at h1
  have e1 : (⟨q.val % 128, by omega⟩ : Fin 128) = k := Fin.ext (by show q.val % 128 = _; omega)
  have e : h = q.val / 256 := by omega
  obtain rfl := Fin.ext h0
  refine (strip_key x4 v _).trans ?_
  refine Eq.trans ?_ (if_pos (by show q.val % 256 < 128; omega)).symm
  show unit (row v n) k * x4 (ix2 0 k) = unit (head x1 (q.val / 256) _ n) ⟨q.val % 128, _⟩ * x4 (ix2 0 ⟨q.val % 128, _⟩)
  simp only [e1, hv]
  subst e
  rfl

/-- The strip beside a key head. -/
theorem tile_hot (i : grid0.Coords) (x1 : FVec Ideal S256x4096 .bf16) (x4 : FVec Ideal S1x128 .f32) (h : ℕ)
    (j : S256x8192.Idx) (y : S256x128.Idx) (h1 : (j 1).val = 256 * h + 128 + (y 1).val) :
    k0_pay5 (F := Ideal) i y = kBlk (i 0).val x1 x4 j := by
  have y1 : (y 1).val < 128 := (y 1).isLt
  refine (strip_hot i y).trans (Eq.trans ?_ (if_neg (by omega)).symm)
  have e : (j 1).val % 128 = (y 1).val := by omega
  simp only [e]

/-- The block of values: each head beside ones. -/
def vBlk (x2 : FVec Ideal S256x4096 .bf16) (j : S256x8192.Idx) : EReal :=
  if (j 1).val % 256 < 128 then
    head x2 ((j 1).val / 256) (by have := (j 1).isLt; change _ < 8192 at this; omega) (j 0) ⟨(j 1).val % 128, by omega⟩
  else Ideal.ofBits .bf16 0x3F80#16

/-- A strip that holds head `h` is its part of the block of values. -/
theorem tile_v (x2 : FVec Ideal S256x4096 .bf16) (h : ℕ) (hh : h < 32)
    (v : FVec Ideal S256x128 .bf16) (hv : ∀ r, row v r = head x2 h hh r) (j : S256x8192.Idx) (y : S256x128.Idx)
    (h0 : (j 0).val = (y 0).val) (h1 : (j 1).val = 256 * h + (y 1).val) : v y = vBlk x2 j := by
  obtain ⟨r, k, rfl⟩ : ∃ (r : Fin 256) (k : Fin 128), y = ix2 r k := ⟨y 0, y 1, eq_ix2 y⟩
  obtain ⟨n, q, rfl⟩ : ∃ (n : Fin 256) (q : Fin 8192), j = ix2 n q := ⟨j 0, j 1, eq_ix2 j⟩
  change n.val = r.val at h0
  change q.val = 256 * h + k.val at h1
  have e1 : (⟨q.val % 128, by omega⟩ : Fin 128) = k := Fin.ext (by show q.val % 128 = _; omega)
  have e : h = q.val / 256 := by omega
  obtain rfl := Fin.ext h0
  refine Eq.trans (congrFun (hv n) k) (Eq.trans ?_ (if_pos (by show q.val % 256 < 128; omega)).symm)
  show head x2 h hh n k = head x2 (q.val / 256) _ n ⟨q.val % 128, _⟩
  simp only [e1]
  subst e
  rfl

/-- The strip beside a value head. -/
theorem tile_one (x2 : FVec Ideal S256x4096 .bf16) (h : ℕ) (j : S256x8192.Idx) (y : S256x128.Idx)
    (h1 : (j 1).val = 256 * h + 128 + (y 1).val) : k0_pay6 (F := Ideal) y = vBlk x2 j := by
  have y1 : (y 1).val < 128 := (y 1).isLt
  refine (strip_one y).trans ?_
  unfold vBlk
  rw [if_neg (by omega)]

/-- The strip of 128 columns at column `b`. -/
abbrev cut (x : FVec Ideal S256x4096 .bf16) (b : ℕ) (inb : ∀ a, ![0, b] a + ![256, 128] a ≤ S256x4096.size a) :
    FVec Ideal S256x128 .bf16 :=
  View.ld (Val := Elt Ideal) (e' := .bf16) x (Rect.unit (s := S256x4096) ![0, b] ![256, 128] inb)

/-- It is a head. -/
theorem row_cut (x : FVec Ideal S256x4096 .bf16) (h : ℕ) (hh : h < 32) (b : ℕ) (hb : b = 128 * h) (inb) (r : Fin 256) :
    row (cut x b inb) r = head x h hh r := by
  subst hb
  funext k
  unfold row head cut
  pointwise

/-- The mean of the key head `h` over the rows of a block, at one channel. -/
def meanAt (x1 : FVec Ideal S256x4096 .bf16) (x4 : FVec Ideal S1x128 .f32) (q : Fin 4096) : EReal :=
  Ideal.div (∑ r : Fin 256, unit (head x1 (q.val / 128) (by omega) r) ⟨q.val % 128, by omega⟩
    * x4 (ix2 0 ⟨q.val % 128, by omega⟩)) (Ideal.ofBits .f32 0x43800000#32)

/-- The means of 32 strips side by side. -/
theorem join (f : Fin 32 → FVec Ideal S1x128 .f32) (hc) (q : Fin 4096) :
    concatenate S1x4096 1 (List.ofFn fun n : Fin 32 => (⟨S1x128, f n⟩ : (s : Shape) × (s.Idx → EReal))) hc (ix2 (0 : Fin 1) q)
      = f ⟨q.val / 128, by omega⟩ (ix2 (0 : Fin 1) (⟨q.val % 128, by omega⟩ : Fin 128)) :=
  concatenate_ofFn_apply (t := S1x4096) (s₁ := S1x128) (1 : Fin 2) f hc rfl 128 rfl (ix2 (0 : Fin 1) q) ⟨q.val / 128, by omega⟩ rfl (ix2 (0 : Fin 1) ⟨q.val % 128, by omega⟩) rfl
    (fun b hb => by
      match b, hb with
      | ⟨0, _⟩, _ => rfl
      | ⟨1, _⟩, hb => exact absurd rfl hb)

/-- The strip of the key head `n`. -/
abbrev strip (x1 : FVec Ideal S256x4096 .bf16) (n : Fin 32) : FVec Ideal S256x128 .bf16 :=
  cut x1 (128 * n.val) (by
    intro a; match a with
    | ⟨0, _⟩ => exact Nat.le_refl 256
    | ⟨1, _⟩ => show 128 * n.val + 128 ≤ 4096; omega)

/-- The row of means of a block. -/
theorem mean_row (x1 : FVec Ideal S256x4096 .bf16) (x4 : FVec Ideal S1x128 .f32) (hc) (q : Fin 4096) :
    concatenate S1x4096 1 (List.ofFn fun n : Fin 32 => (⟨S1x128, k0_pay12 (F := Ideal) (k0_pay4 x4) (k0_pay8 (strip x1 n))
      (k0_pay9 (strip x1 n))⟩ : (s : Shape) × (s.Idx → EReal))) hc (ix2 (0 : Fin 1) q) = meanAt x1 x4 q := by
  refine (join _ hc q).trans ((strip_mean x4 _ _).trans ?_)
  unfold meanAt
  have e : ∀ r, row (strip x1 ⟨q.val / 128, by omega⟩) r = head x1 (q.val / 128) (by omega) r :=
    fun r => row_cut x1 _ _ _ rfl _ r
  simp only [e]

/-- A row of means put into its place. -/
theorem put_row (i : grid0.Coords) (v : FVec Ideal S1x4096 .f32) (o : FVec Ideal S32x4096 .f32) (r : Fin 32) (q : Fin 4096) :
    k0_pay1 (F := Ideal) v (k0_pay173 (BitVec.ofNat 32 (i 0).val)) o (ix2 r q)
      = if r.val = (i 0).val then v (ix2 0 q) else o (ix2 r q) := by
  have h2 := point_lt i
  refine Eq.trans ?_ (pick r.val (i 0).val (by omega) (by omega) _ _)
  pointwise [k0_pay1, k0_pay173]

theorem piece_q (x0 : FVec Ideal S256x4096 .bf16) (x3 : FVec Ideal S1x128 .f32) (b : ℕ) (j : S256x4096.Idx) (y : S256x128.Idx)
    (h0 : (j 0).val = (y 0).val) (h1 : (j 1).val = b + (y 1).val) (hb : b % 128 = 0) (hl : b < 4096) (inb) :
    k0_pay7 (F := Ideal) x3 (cut x0 b inb) y = qBlk x0 x3 j :=
  tile_q x0 x3 (b / 128) (by omega) _ (row_cut x0 _ _ b (by omega) inb) j y h0 (by omega)

theorem piece_k (t : ℕ) (x1 : FVec Ideal S256x4096 .bf16) (x4 : FVec Ideal S1x128 .f32) (b : ℕ) (j : S256x8192.Idx)
    (y : S256x128.Idx) (h0 : (j 0).val = (y 0).val) (h1 : (j 1).val = b + (y 1).val) (hb : b % 256 = 0) (hl : b < 8192) (inb) :
    k0_pay11 (F := Ideal) (k0_pay4 x4) (k0_pay8 (cut x1 (b / 2) inb)) (k0_pay9 (cut x1 (b / 2) inb)) y = kBlk t x1 x4 j :=
  tile_k t x1 x4 (b / 256) (by omega) _ (row_cut x1 _ _ (b / 2) (by omega) inb) j y h0 (by omega)

theorem piece_hot (i : grid0.Coords) (x1 : FVec Ideal S256x4096 .bf16) (x4 : FVec Ideal S1x128 .f32) (b : ℕ) (j : S256x8192.Idx)
    (y : S256x128.Idx) (h1 : (j 1).val = b + (y 1).val) (hb : b % 256 = 128) : k0_pay5 (F := Ideal) i y = kBlk (i 0).val x1 x4 j :=
  tile_hot i x1 x4 (b / 256) j y (by omega)

theorem piece_v (x2 : FVec Ideal S256x4096 .bf16) (b : ℕ) (j : S256x8192.Idx)
    (y : S256x128.Idx) (h0 : (j 0).val = (y 0).val) (h1 : (j 1).val = b + (y 1).val) (hb : b % 256 = 0) (hl : b < 8192) (inb) :
    cut x2 (b / 2) inb y = vBlk x2 j :=
  tile_v x2 (b / 256) (by omega) _ (row_cut x2 _ _ (b / 2) (by omega) inb) j y h0 (by omega)

theorem piece_one (x2 : FVec Ideal S256x4096 .bf16) (b : ℕ) (j : S256x8192.Idx)
    (y : S256x128.Idx) (h1 : (j 1).val = b + (y 1).val) (hb : b % 256 = 128) : k0_pay6 (F := Ideal) y = vBlk x2 j :=
  tile_one x2 (b / 256) j y (by omega)

variable (m : (ℓ : Loc nD τ sig) → Buf (Elt Ideal) ℓ)

theorem blk5 (c : Dev nD) (t : Fin cfg0.N) (j) : (outsAt0 m c t.val t.isLt).1 j = qBlk (iblk m c 0 t) (iblk m c 3 t) j := by
  by_cases h0 : t.val % 32 = 0
  · rw [outsAt0_A m c t h0]
    unfold out0_A_5
    frame_out
    generalize iblk m c 0 t = x0
    generalize iblk m c 3 t = x3
    canon_tiles y hy
    iterate 31
      · exact piece_q x0 x3 _ j y hy0 hy1 (by decide) (by decide) (by decide)
    · exact piece_q x0 x3 0 j y hy0 (hy1.trans (Nat.zero_add _).symm) (by decide) (by decide) (by decide)
  · rw [outsAt0_B m c t h0]
    unfold out0_B_5
    frame_out
    generalize iblk m c 0 t = x0
    generalize iblk m c 3 t = x3
    canon_tiles y hy
    iterate 31
      · exact piece_q x0 x3 _ j y hy0 hy1 (by decide) (by decide) (by decide)
    · exact piece_q x0 x3 0 j y hy0 (hy1.trans (Nat.zero_add _).symm) (by decide) (by decide) (by decide)

theorem blk6 (c : Dev nD) (t : Fin cfg0.N) (j) :
    (outsAt0 m c t.val t.isLt).2.1 j = kBlk (grid0.coords t 0).val (iblk m c 1 t) (iblk m c 4 t) j := by
  by_cases h0 : t.val % 32 = 0
  · rw [outsAt0_A m c t h0]
    unfold out0_A_6
    frame_out
    generalize iblk m c 1 t = x1
    generalize iblk m c 4 t = x4
    canon_tiles y hy
    iterate 31
      · exact piece_hot (grid0.coords t) x1 x4 _ j y hy1 (by decide)
      · exact piece_k _ x1 x4 _ j y hy0 hy1 (by decide) (by decide) (by decide)
    · exact piece_hot (grid0.coords t) x1 x4 _ j y hy1 (by decide)
    · exact piece_k _ x1 x4 0 j y hy0 (hy1.trans (Nat.zero_add _).symm) (by decide) (by decide) (by decide)
  · rw [outsAt0_B m c t h0]
    unfold out0_B_6
    frame_out
    generalize iblk m c 1 t = x1
    generalize iblk m c 4 t = x4
    canon_tiles y hy
    iterate 31
      · exact piece_hot (grid0.coords t) x1 x4 _ j y hy1 (by decide)
      · exact piece_k _ x1 x4 _ j y hy0 hy1 (by decide) (by decide) (by decide)
    · exact piece_hot (grid0.coords t) x1 x4 _ j y hy1 (by decide)
    · exact piece_k _ x1 x4 0 j y hy0 (hy1.trans (Nat.zero_add _).symm) (by decide) (by decide) (by decide)

theorem blk7 (c : Dev nD) (t : Fin cfg0.N) (j) : (outsAt0 m c t.val t.isLt).2.2.1 j = vBlk (iblk m c 2 t) j := by
  by_cases h0 : t.val % 32 = 0
  · rw [outsAt0_A m c t h0]
    unfold out0_A_7
    frame_out
    generalize iblk m c 2 t = x2
    canon_tiles y hy
    iterate 31
      · exact piece_one x2 _ j y hy1 (by decide)
      · exact piece_v x2 _ j y hy0 hy1 (by decide) (by decide) (by decide)
    · exact piece_one x2 _ j y hy1 (by decide)
    · exact piece_v x2 0 j y hy0 (hy1.trans (Nat.zero_add _).symm) (by decide) (by decide) (by decide)
  · rw [outsAt0_B m c t h0]
    unfold out0_B_7
    frame_out
    generalize iblk m c 2 t = x2
    canon_tiles y hy
    iterate 31
      · exact piece_one x2 _ j y hy1 (by decide)
      · exact piece_v x2 _ j y hy0 hy1 (by decide) (by decide) (by decide)
    · exact piece_one x2 _ j y hy1 (by decide)
    · exact piece_v x2 0 j y hy0 (hy1.trans (Nat.zero_add _).symm) (by decide) (by decide) (by decide)

/-- The row of means of a block, as the body joins it. -/
abbrev meanRow (x1 : FVec Ideal S256x4096 .bf16) (x4 : FVec Ideal S1x128 .f32) : FVec Ideal S1x4096 .f32 :=
  concatenate S1x4096 1 (List.ofFn fun n : Fin 32 => (⟨S1x128, k0_pay12 (F := Ideal) (k0_pay4 x4) (k0_pay8 (strip x1 n))
      (k0_pay9 (strip x1 n))⟩ : (s : Shape) × (s.Idx → EReal))) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x4096_d1

/-- The first point's means. -/
theorem first8 (c : Dev nD) (t : Fin cfg0.N) (h0 : t.val % 32 = 0) : (outsAt0 m c t.val t.isLt).2.2.2
    = k0_pay1 (F := Ideal) (meanRow (iblk m c 1 t) (iblk m c 4 t)) (k0_pay173 (BitVec.ofNat 32 (grid0.coords t 0).val)) (k0_pay2 (F := Ideal)) := by
  rw [outsAt0_A m c t h0]
  unfold out0_A_8
  frame_out
  rfl

/-- A later point's means, over those of the point before. -/
theorem next8 (c : Dev nD) (t : Fin cfg0.N) (h0 : ¬t.val % 32 = 0) : (outsAt0 m c t.val t.isLt).2.2.2
    = k0_pay1 (F := Ideal) (meanRow (iblk m c 1 t) (iblk m c 4 t)) (k0_pay173 (BitVec.ofNat 32 (grid0.coords t 0).val))
      (outsAt0 m c (t.val - 1) (by omega)).2.2.2 := by
  rw [outsAt0_B m c t h0]
  unfold out0_B_8
  frame_out
  rfl

theorem idx0 : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ (grid0.coords t 0).val = t.val :=
  (by decide +kernel : ∀ t : Fin grid0.N, _)

/-- After the point `n`, the rows up to `n` hold their blocks' means and the others zero. -/
theorem blk8 (c : Dev nD) : ∀ (n : ℕ) (hn : n < cfg0.N) (r : Fin 32) (q : Fin 4096), (outsAt0 m c n hn).2.2.2 (ix2 r q)
    = if h : r.val ≤ n then meanAt (iblk m c 1 ⟨r.val, Nat.lt_of_le_of_lt h hn⟩) (iblk m c 4 ⟨r.val, Nat.lt_of_le_of_lt h hn⟩) q
      else Ideal.ofBits .f32 0x00000000#32
  | 0, hn, r, q => by
    rw [first8 m c ⟨0, hn⟩ rfl]
    refine (put_row _ _ _ r q).trans ?_
    have e : (grid0.coords (⟨0, hn⟩ : Fin cfg0.N) 0).val = 0 := (idx0 ⟨0, hn⟩).2.2.2.2.2.2.2.2.2
    by_cases h : r.val = 0
    · rw [if_pos (h.trans e.symm), dif_pos (by omega)]
      obtain ⟨rv, hr⟩ := r
      obtain rfl : rv = 0 := h
      exact mean_row _ _ _ q
    · rw [if_neg (fun h' => h (h'.trans e)), dif_neg (by omega)]
      rfl
  | n + 1, hn, r, q => by
    have hN : n + 1 < 32 := hn
    rw [next8 m c ⟨n + 1, hn⟩ (by show ¬(n + 1) % 32 = 0; omega)]
    refine (put_row _ _ _ r q).trans ?_
    have e : (grid0.coords (⟨n + 1, hn⟩ : Fin cfg0.N) 0).val = n + 1 := (idx0 ⟨n + 1, hn⟩).2.2.2.2.2.2.2.2.2
    by_cases h : r.val = n + 1
    · rw [if_pos (h.trans e.symm), dif_pos (by omega)]
      obtain ⟨rv, hr⟩ := r
      obtain rfl : rv = n + 1 := h
      exact mean_row _ _ _ q
    · rw [if_neg (fun h' => h (h'.trans e))]
      refine (blk8 c n (Nat.lt_of_succ_lt hn) r q).trans ?_
      by_cases h' : r.val ≤ n
      · rw [dif_pos h', dif_pos (by omega)]
      · rw [dif_neg h', dif_neg (by omega)]

/-- The row `n` of the head at column `b` of the projected rows. -/
def headOf (p : FVec Ideal S8192x16384 .bf16) (b : ℕ) (hb : b + 128 ≤ 16384) (n : Fin 8192) : Fin 128 → EReal :=
  fun k => p (ix2 n ⟨b + k.val, by omega⟩)

/-- The queries: each head normalised, weighted and scaled. -/
def qs (p : FVec Ideal S8192x16384 .bf16) (w : FVec Ideal S1x128 .f32) : FVec Ideal S8192x4096 .bf16 := fun i =>
  unit (headOf p (128 * ((i 1).val / 128)) (by have := (i 1).isLt; change _ < 4096 at this; omega) (i 0)) ⟨(i 1).val % 128, by omega⟩
    * (w (ix2 0 ⟨(i 1).val % 128, by omega⟩) * Ideal.ofBits .f32 0x3E0293EE#32)

/-- The keys: each head normalised and weighted, beside the marked number of its row's block. -/
def ka (p : FVec Ideal S8192x16384 .bf16) (w : FVec Ideal S1x128 .f32) : FVec Ideal S8192x8192 .bf16 := fun i =>
  if (i 1).val % 256 < 128 then
    unit (headOf p (4096 + 128 * ((i 1).val / 256)) (by have := (i 1).isLt; change _ < 8192 at this; omega) (i 0)) ⟨(i 1).val % 128, by omega⟩
      * w (ix2 0 ⟨(i 1).val % 128, by omega⟩)
  else if (i 1).val % 128 = (i 0).val / 256 then Ideal.ofBits .f32 0x3F800000#32 else Ideal.ofBits .f32 0x00000000#32

/-- The values: each head beside ones. -/
def va (p : FVec Ideal S8192x16384 .bf16) : FVec Ideal S8192x8192 .bf16 := fun i =>
  if (i 1).val % 256 < 128 then
    headOf p (8192 + 128 * ((i 1).val / 256)) (by have := (i 1).isLt; change _ < 8192 at this; omega) (i 0) ⟨(i 1).val % 128, by omega⟩
  else Ideal.ofBits .bf16 0x3F80#16

/-- The means of the keys over each block of 256 rows. -/
def km (p : FVec Ideal S8192x16384 .bf16) (w : FVec Ideal S1x128 .f32) : FVec Ideal S32x4096 .f32 := fun i =>
  Ideal.div (∑ r : Fin 256, unit (headOf p (4096 + 128 * ((i 1).val / 128)) (by have := (i 1).isLt; change _ < 4096 at this; omega)
      ⟨256 * (i 0).val + r.val, by have := (i 0).isLt; change _ < 32 at this; omega⟩) ⟨(i 1).val % 128, by omega⟩
    * w (ix2 0 ⟨(i 1).val % 128, by omega⟩)) (Ideal.ofBits .f32 0x43800000#32)

/-- A head of a block of queries, in the array. -/
theorem head_q (c : Dev nD) (t : Fin cfg0.N) (ht : t.val < 32) (h : ℕ) (hh : h < 32) (r : Fin 256) : head (iblk m c 0 t) h hh r
    = headOf (V m c main_arg0) (128 * h) (by omega) ⟨256 * t.val + r.val, by omega⟩ := by
  funext k
  unfold head headOf
  blk_point [iblk, idx0 t]

theorem head_k (c : Dev nD) (t : Fin cfg0.N) (ht : t.val < 32) (h : ℕ) (hh : h < 32) (r : Fin 256) : head (iblk m c 1 t) h hh r
    = headOf (V m c main_arg0) (4096 + 128 * h) (by omega) ⟨256 * t.val + r.val, by omega⟩ := by
  funext k
  unfold head headOf
  blk_point [iblk, idx0 t]

theorem head_v (c : Dev nD) (t : Fin cfg0.N) (ht : t.val < 32) (h : ℕ) (hh : h < 32) (r : Fin 256) : head (iblk m c 2 t) h hh r
    = headOf (V m c main_arg0) (8192 + 128 * h) (by omega) ⟨256 * t.val + r.val, by omega⟩ := by
  funext k
  unfold head headOf
  blk_point [iblk, idx0 t]

theorem weight_q (c : Dev nD) (t : Fin cfg0.N) (k : Fin 128) : iblk m c 3 t (ix2 0 k) = V m c main_v0 (ix2 0 k) := by
  blk_point [iblk, idx0 t]

theorem weight_k (c : Dev nD) (t : Fin cfg0.N) (k : Fin 128) : iblk m c 4 t (ix2 0 k) = V m c main_v1 (ix2 0 k) := by
  blk_point [iblk, idx0 t]

/-- The launch leaves the queries. -/
theorem arr5 (c : Dev nD) : (dats m 0 c).arrAt 5 cfg0.N = qs (V m c main_arg0) (V m c main_v0) := by
  refine (dats m 0 c).arrAt_eq_of_covers 5 _ (by decide +kernel) fun t _ y => ?_
  blk_simp
  rw [after0_5]
  obtain ⟨r, q, rfl⟩ : ∃ (r : Fin 256) (q : Fin 4096), y = ix2 r q := ⟨y 0, y 1, eq_ix2 y⟩
  have ht : t.val < 32 := t.isLt
  have e : qs (V m c main_arg0) (V m c main_v0) (((cfg0.win 5).blk t).view.emb (ix2 r q))
      = qs (V m c main_arg0) (V m c main_v0) (ix2 ⟨256 * t.val + r.val, by omega⟩ q) := by
    blk_ext [idx0 t]
  refine (blk5 m c t (ix2 r q)).trans (Eq.trans ?_ e.symm)
  exact congrArg₂ (· * ·) (congrFun (congrArg unit (head_q m c t ht (q.val / 128) (by omega) r)) _) (congrArg (· * _) (weight_q m c t _))

/-- The launch leaves the keys. -/
theorem arr6 (c : Dev nD) : (dats m 0 c).arrAt 6 cfg0.N = ka (V m c main_arg0) (V m c main_v1) := by
  refine (dats m 0 c).arrAt_eq_of_covers 6 _ (by decide +kernel) fun t _ y => ?_
  blk_simp
  rw [after0_6]
  obtain ⟨r, q, rfl⟩ : ∃ (r : Fin 256) (q : Fin 8192), y = ix2 r q := ⟨y 0, y 1, eq_ix2 y⟩
  have ht : t.val < 32 := t.isLt
  have e : ka (V m c main_arg0) (V m c main_v1) (((cfg0.win 6).blk t).view.emb (ix2 r q))
      = ka (V m c main_arg0) (V m c main_v1) (ix2 ⟨256 * t.val + r.val, by omega⟩ q) := by
    blk_ext [idx0 t]
  refine (blk6 m c t (ix2 r q)).trans (Eq.trans ?_ e.symm)
  refine ite_congr rfl (fun _ => congrArg₂ (· * ·)
    (congrFun (congrArg unit (head_k m c t ht (q.val / 256) (by omega) r)) _) (weight_k m c t _)) fun _ => ite_congr ?_ (fun _ => rfl) fun _ => rfl
  have e : (256 * t.val + r.val) / 256 = t.val := by omega
  show (q.val % 128 = (grid0.coords t 0).val) = (q.val % 128 = (256 * t.val + r.val) / 256)
  rw [(idx0 t).2.2.2.2.2.2.2.2.2, e]

/-- The launch leaves the values. -/
theorem arr7 (c : Dev nD) : (dats m 0 c).arrAt 7 cfg0.N = va (V m c main_arg0) := by
  refine (dats m 0 c).arrAt_eq_of_covers 7 _ (by decide +kernel) fun t _ y => ?_
  blk_simp
  rw [after0_7]
  obtain ⟨r, q, rfl⟩ : ∃ (r : Fin 256) (q : Fin 8192), y = ix2 r q := ⟨y 0, y 1, eq_ix2 y⟩
  have ht : t.val < 32 := t.isLt
  have e : va (V m c main_arg0) (((cfg0.win 7).blk t).view.emb (ix2 r q))
      = va (V m c main_arg0) (ix2 ⟨256 * t.val + r.val, by omega⟩ q) := by
    blk_ext [idx0 t]
  refine (blk7 m c t (ix2 r q)).trans (Eq.trans ?_ e.symm)
  exact ite_congr rfl (fun _ => congrFun (head_v m c t ht (q.val / 256) (by omega) r) _) fun _ => rfl

/-- Only the last point writes the means back. -/
theorem last8 : ∀ t : Fin cfg0.N, (cfg0.win 8).flush t = true → t.val = 31 :=
  (by decide +kernel : ∀ t : Fin grid0.N, _)

/-- The launch leaves the means. -/
theorem arr8 (c : Dev nD) : (dats m 0 c).arrAt 8 cfg0.N = km (V m c main_arg0) (V m c main_v1) := by
  refine (dats m 0 c).arrAt_eq_of_covers 8 _ (by decide +kernel) fun t hf y => ?_
  have hl := last8 t hf
  blk_simp
  rw [after0_8]
  obtain ⟨r, q, rfl⟩ : ∃ (r : Fin 32) (q : Fin 4096), y = ix2 r q := ⟨y 0, y 1, eq_ix2 y⟩
  have e : km (V m c main_arg0) (V m c main_v1) (((cfg0.win 8).blk t).view.emb (ix2 r q))
      = km (V m c main_arg0) (V m c main_v1) (ix2 r q) := by
    blk_ext [idx0 t]
  refine (blk8 m c t.val t.isLt r q).trans (Eq.trans ?_ e.symm)
  rw [dif_pos (by omega)]
  unfold meanAt
  simp only [weight_k, head_k m c ⟨r.val, _⟩ r.isLt]
  rfl

end Cert.Kernel8Ideal.Layer
-- ==== Proof.MobaPrepRun.lean ====
/-
  What a run of the MoBA layer's preparation leaves, read from its arguments: the two weights are laid out as one row first.
-/
module

public import proofs.«01_k».proof.Proof.MobaPrep

@[expose] public section

noncomputable section

namespace Cert.Kernel8Ideal.Layer

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

/-- The query weight, as one row. -/
theorem V_v0 : V m c main_v0 = shapeCast S1x128 (m ((c : Thread nD τ).loc main_arg1)) shapeCasts_S128_S1x128 := by
  show StableHlo.after _ _ (Proc.devRef .tc main_v0) = _
  after_results_simp
  rfl

/-- The key weight, as one row. -/
theorem V_v1 : V m c main_v1 = shapeCast S1x128 (m ((c : Thread nD τ).loc main_arg2)) shapeCasts_S128_S1x128 := by
  show StableHlo.after _ _ (Proc.devRef .tc main_v1) = _
  after_results_simp
  rfl

/-- The queries. -/
theorem arr_q : (dats m 0 c).arrAt 5 cfg0.N = qs (m ((c : Thread nD τ).loc main_arg0))
    (shapeCast S1x128 (m ((c : Thread nD τ).loc main_arg1)) shapeCasts_S128_S1x128) :=
  (arr5 m c).trans (congrArg₂ qs (V_main_arg0 m c) (V_v0 m c))

/-- The keys beside the block's number. -/
theorem arr_k : (dats m 0 c).arrAt 6 cfg0.N = ka (m ((c : Thread nD τ).loc main_arg0))
    (shapeCast S1x128 (m ((c : Thread nD τ).loc main_arg2)) shapeCasts_S128_S1x128) :=
  (arr6 m c).trans (congrArg₂ ka (V_main_arg0 m c) (V_v1 m c))

/-- The values beside ones. -/
theorem arr_v : (dats m 0 c).arrAt 7 cfg0.N = va (m ((c : Thread nD τ).loc main_arg0)) :=
  (arr7 m c).trans (congrArg va (V_main_arg0 m c))

/-- The mean keys of the blocks. -/
theorem arr_m : (dats m 0 c).arrAt 8 cfg0.N = km (m ((c : Thread nD τ).loc main_arg0))
    (shapeCast S1x128 (m ((c : Thread nD τ).loc main_arg2)) shapeCasts_S128_S1x128) :=
  (arr8 m c).trans (congrArg₂ km (V_main_arg0 m c) (V_v1 m c))

end Cert.Kernel8Ideal.Layer
-- ==== Proof.MobaPrepRef.lean ====
/-
  The MoBA layer's preparation as the reference writes it, over the extended reals: its four results are those the kernel
  leaves.
-/
module

public import proofs.«01_k».proof.Proof.MobaPrep
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Reference8Ideal.Layer

open Cert.Reference8Ideal Cert.Reference8Ideal.Gen
open Idealize.ShloMosaic Idealize.ShloMosaic.TcCoe Idealize.SL.Sem

/-- The heads of the queries. -/
def headsQ (a0 : FVec Ideal S8192x16384 .bf16) : FVec Ideal S8192x32x128 .f32 :=
  shapeCast _ (extractStridedSlice S8192x4096 ![0, 0] (extf .f32 a0 bitsLt_bf16_f32) slices_S8192x16384_S8192x4096_0_0) shapeCasts_S8192x4096_S8192x32x128

/-- The heads of the keys. -/
def headsK (a0 : FVec Ideal S8192x16384 .bf16) : FVec Ideal S8192x32x128 .f32 :=
  shapeCast _ (extractStridedSlice S8192x4096 ![0, 4096] (extf .f32 a0 bitsLt_bf16_f32) slices_S8192x16384_S8192x4096_0_4096) shapeCasts_S8192x4096_S8192x32x128

/-- The heads of the values. -/
def headsV (a0 : FVec Ideal S8192x16384 .bf16) : FVec Ideal S8192x32x128 .f32 :=
  shapeCast _ (extractStridedSlice S8192x4096 ![0, 8192] (extf .f32 a0 bitsLt_bf16_f32) slices_S8192x16384_S8192x4096_0_8192) shapeCasts_S8192x4096_S8192x32x128

/-- Heads normalised and weighted. -/
def weighted (x : FVec Ideal S8192x32x128 .f32) (w : FVec Ideal S128 .f32) : FVec Ideal S8192x32x128 .f32 :=
  mulf (mulf x (broadcastInDim S8192x32x128 ![0, 1, 2] bcast_S8192x32x1_S8192x32x128_0_1_2 (Host.rsqrt (addf (Host.divf (broadcastInDim S8192x32x1 ![0, 1] bcast_S8192x32_S8192x32x1_0_1 (Host.reduceAdd (mulf x x) (constant S_ .f32 0x00000000#32) reducesTo_S8192x32x128_S8192x32_d2 h_S_)) (broadcastInDim S8192x32x1 ![] bcast_S_S8192x32x1 (constant S_ .f32 0x43000000#32))) (broadcastInDim S8192x32x1 ![] bcast_S_S8192x32x1 (constant S_ .f32 0x358637BD#32))))))
    (broadcastInDim S8192x32x128 ![0, 1, 2] bcast_S1x1x128_S8192x32x128_0_1_2 (broadcastInDim S1x1x128 ![2] bcast_S128_S1x1x128_2 w))

/-- The number of each row's block. -/
def blockNum : IVec S8192 32 :=
  select (andi (cmpi .ne (signi (iotaInDim S8192 32 0)) (broadcastInDim S8192 ![] bcast_S_S8192 (signi (id (constantI S_ 32 256#32))))) (cmpi .ne (Host.remsi (iotaInDim S8192 32 0) (broadcastInDim S8192 ![] bcast_S_S8192 (id (constantI S_ 32 256#32)))) (broadcastInDim S8192 ![] bcast_S_S8192 (constantI S_ 32 0#32)))) (subi (Host.divsi (iotaInDim S8192 32 0) (broadcastInDim S8192 ![] bcast_S_S8192 (id (constantI S_ 32 256#32)))) (broadcastInDim S8192 ![] bcast_S_S8192 (constantI S_ 32 1#32))) (Host.divsi (iotaInDim S8192 32 0) (broadcastInDim S8192 ![] bcast_S_S8192 (id (constantI S_ 32 256#32))))

/-- The marked number of each row's block. -/
def hot (b : IVec S8192 32) : FVec Ideal S8192x32x128 .f32 :=
  broadcastInDim S8192x32x128 ![0, 1, 2] bcast_S8192x1x128_S8192x32x128_0_1_2 (broadcastInDim S8192x1x128 ![0, 2] bcast_S8192x128_S8192x1x128_0_2 (uitofp .f32 (cmpi .eq (broadcastInDim S8192x128 ![0, 1] bcast_S8192x1_S8192x128_0_1 (broadcastInDim S8192x1 ![0] bcast_S8192_S8192x1_0 b)) (broadcastInDim S8192x128 ![0, 1] bcast_S1x128_S8192x128_0_1 (broadcastInDim S1x128 ![1] bcast_S128_S1x128_1 (iotaInDim S128 32 0))))))

/-- The four results, of the heads. -/
def outQ (x : FVec Ideal S8192x32x128 .f32) : FVec Ideal S8192x4096 .bf16 :=
  truncf .bf16 (shapeCast _ (mulf x (broadcastInDim S8192x32x128 ![] bcast_S_S8192x32x128 (constant S_ .f32 0x3E0293EE#32))) shapeCasts_S8192x32x128_S8192x4096) bitsLt_bf16_f32

def outK (x y : FVec Ideal S8192x32x128 .f32) : FVec Ideal S8192x8192 .bf16 :=
  truncf .bf16 (shapeCast _ (concatenate S8192x32x256 2 [⟨S8192x32x128, x⟩, ⟨S8192x32x128, y⟩] concatenates_S8192x32x128_S8192x32x128_S8192x32x256_d2) shapeCasts_S8192x32x256_S8192x8192) bitsLt_bf16_f32

def outM (x : FVec Ideal S8192x32x128 .f32) : FVec Ideal S32x4096 .f32 :=
  shapeCast _ (Host.divf (Host.reduceAdd (shapeCast _ x shapeCasts_S8192x32x128_S32x256x32x128) (constant S_ .f32 0x00000000#32) reducesTo_S32x256x32x128_S32x32x128_d1 h_S_) (broadcastInDim S32x32x128 ![] bcast_S_S32x32x128 (constant S_ .f32 0x43800000#32))) shapeCasts_S32x32x128_S32x4096

/-- The ones beside the values. -/
def ones : FVec Ideal S8192x32x128 .f32 := broadcastInDim S8192x32x128 ![] bcast_S_S8192x32x128 (constant S_ .f32 0x3F800000#32)

open Cert.Kernel8Ideal.Layer (unit headOf)

theorem headsQ_at (a0 : FVec Ideal S8192x16384 .bf16) (n : Fin 8192) (h : Fin 32) (k : Fin 128) :
    headsQ a0 (ix3 n h k) = headOf a0 (128 * h.val) (by omega) n k := by
  pointwise [headsQ, headOf]
  exact congrArg a0 (congrArg (ix2 n) (Fin.ext (by show _ + _ = _ + _; omega)))

theorem headsK_at (a0 : FVec Ideal S8192x16384 .bf16) (n : Fin 8192) (h : Fin 32) (k : Fin 128) :
    headsK a0 (ix3 n h k) = headOf a0 (4096 + 128 * h.val) (by omega) n k := by
  pointwise [headsK, headOf]
  exact congrArg a0 (congrArg (ix2 n) (Fin.ext (by show _ + _ = _ + _; omega)))

theorem headsV_at (a0 : FVec Ideal S8192x16384 .bf16) (n : Fin 8192) (h : Fin 32) (k : Fin 128) :
    headsV a0 (ix3 n h k) = headOf a0 (8192 + 128 * h.val) (by omega) n k := by
  pointwise [headsV, headOf]
  exact congrArg a0 (congrArg (ix2 n) (Fin.ext (by show _ + _ = _ + _; omega)))

theorem weighted_at (x : FVec Ideal S8192x32x128 .f32) (w : FVec Ideal S128 .f32) (n : Fin 8192) (h : Fin 32) (k : Fin 128) :
    weighted x w (ix3 n h k) = unit (fun j => x (ix3 n h j)) k * w (ix1 k) := by
  pointwise [weighted, unit]

theorem outQ_at (x : FVec Ideal S8192x32x128 .f32) (n : Fin 8192) (q : Fin 4096) :
    outQ x (ix2 n q) = x (ix3 n ⟨q.val / 128, by omega⟩ ⟨q.val % 128, by omega⟩) * Ideal.ofBits .f32 0x3E0293EE#32 := by
  pointwise [outQ]

theorem outK_at (x y : FVec Ideal S8192x32x128 .f32) (n : Fin 8192) (q : Fin 8192) :
    outK x y (ix2 n q) = if q.val % 256 < 128 then x (ix3 n ⟨q.val / 256, by omega⟩ ⟨q.val % 128, by omega⟩)
      else y (ix3 n ⟨q.val / 256, by omega⟩ ⟨q.val % 128, by omega⟩) := by
  pointwise [outK]
  by_cases e : q.val % 256 < 128
  · rw [dif_pos e, if_pos e]
    exact congrArg x (congrArg (ix3 n _) (Fin.ext (by show q.val % 256 = q.val % 128; omega)))
  · rw [dif_neg e, if_neg e]
    exact congrArg y (congrArg (ix3 n _) (Fin.ext (by show q.val % 256 - 128 = q.val % 128; omega)))

theorem outM_at (x : FVec Ideal S8192x32x128 .f32) (r : Fin 32) (q : Fin 4096) :
    outM x (ix2 r q) = Ideal.div (∑ j : Fin 256, x (ix3 ⟨256 * r.val + j.val, by omega⟩ ⟨q.val / 128, by omega⟩ ⟨q.val % 128, by omega⟩))
      (Ideal.ofBits .f32 0x43800000#32) := by
  pointwise [outM]
  refine congrArg (Ideal.div · _) (Finset.sum_congr rfl fun j _ => ?_)
  exact congrArg (fun n => x (ix3 n _ _)) (Fin.ext (by show r.val * 256 + j.val = 256 * r.val + j.val; omega))

theorem blockNum_at (n : Fin 8192) : blockNum (ix1 n) = BitVec.ofNat 32 (n.val / 256) := by
  pointwise [blockNum]
  revert n
  decide +kernel

theorem hot_at (b : IVec S8192 32) (n : Fin 8192) (h : Fin 32) (k : Fin 128) :
    hot b (ix3 n h k) = if k.val = (b (ix1 n)).toNat then Ideal.ofBits .f32 0x3F800000#32 else Ideal.ofBits .f32 0x00000000#32 := by
  pointwise [hot]
  rw [WordCmp.cmpi_eq_eq_toNat]
  by_cases e : k.val = (b (ix1 n)).toNat
  · rw [if_pos e]
    have e' : (b (ix1 n)).toNat = (BitVec.ofNat 32 k.val).toNat := by
      rw [← e, BitVec.toNat_ofNat, Nat.mod_eq_of_lt (by omega)]
    rw [decide_eq_true e']
    exact (by simp : ((1 : ℕ) : EReal) = 1)
  · rw [if_neg e]
    have e' : ¬(b (ix1 n)).toNat = (BitVec.ofNat 32 k.val).toNat := by
      rw [BitVec.toNat_ofNat, Nat.mod_eq_of_lt (by omega)]; exact fun h => e h.symm
    rw [decide_eq_false e']
    exact (by simp : ((0 : ℕ) : EReal) = 0)

variable (p : FVec Ideal S8192x16384 .bf16) (w : FVec Ideal S128 .f32)

/-- A weighted head of the queries. -/
theorem query_at (n : Fin 8192) (h : Fin 32) (k : Fin 128) : weighted (headsQ p) w (ix3 n h k)
    = unit (headOf p (128 * h.val) (by omega) n) k * w (ix1 k) := by
  rw [weighted_at]
  simp only [headsQ_at]

/-- A weighted head of the keys. -/
theorem key_at (n : Fin 8192) (h : Fin 32) (k : Fin 128) : weighted (headsK p) w (ix3 n h k)
    = unit (headOf p (4096 + 128 * h.val) (by omega) n) k * w (ix1 k) := by
  rw [weighted_at]
  simp only [headsK_at]

/-- The weight row of the kernel. -/
theorem weight_at (h) (k : Fin 128) : shapeCast Cert.Kernel8Ideal.S1x128 w h (ix2 0 k) = w (ix1 k) := by
  pointwise

/-- The reference's queries. -/
theorem outQ_eq (h) : outQ (weighted (headsQ p) w) = Cert.Kernel8Ideal.Layer.qs p (shapeCast Cert.Kernel8Ideal.S1x128 w h) := by
  funext i
  obtain ⟨n, q, rfl⟩ : ∃ (n : Fin 8192) (q : Fin 4096), i = ix2 n q := ⟨i 0, i 1, eq_ix2 i⟩
  rw [outQ_at, query_at, mul_assoc, ← weight_at w h]
  rfl

/-- The reference's keys. -/
theorem outK_eq (h) : outK (weighted (headsK p) w) (hot blockNum)
    = Cert.Kernel8Ideal.Layer.ka p (shapeCast Cert.Kernel8Ideal.S1x128 w h) := by
  funext i
  obtain ⟨n, q, rfl⟩ : ∃ (n : Fin 8192) (q : Fin 8192), i = ix2 n q := ⟨i 0, i 1, eq_ix2 i⟩
  rw [outK_at, key_at, hot_at, blockNum_at, BitVec.toNat_ofNat, show n.val / 256 % 2 ^ 32 = n.val / 256 by omega, ← weight_at w h]
  rfl

/-- The reference's values. -/
theorem outV_eq : outK (headsV p) ones = Cert.Kernel8Ideal.Layer.va p := by
  funext i
  obtain ⟨n, q, rfl⟩ : ∃ (n : Fin 8192) (q : Fin 8192), i = ix2 n q := ⟨i 0, i 1, eq_ix2 i⟩
  rw [outK_at, headsV_at]
  refine ite_congr rfl (fun _ => rfl) fun _ => ?_
  pointwise [ones]

/-- The reference's means. -/
theorem outM_eq (h) : outM (weighted (headsK p) w) = Cert.Kernel8Ideal.Layer.km p (shapeCast Cert.Kernel8Ideal.S1x128 w h) := by
  funext i
  obtain ⟨r, q, rfl⟩ : ∃ (r : Fin 32) (q : Fin 4096), i = ix2 r q := ⟨i 0, i 1, eq_ix2 i⟩
  rw [outM_at]
  simp only [key_at, ← weight_at w h]
  rfl

end Cert.Reference8Ideal.Layer
-- ==== Proof.SsdCore.lean ====
/-
  The core of an SSD layer, of its memory: at any grid point the body runs from any contents of its windows and of the
  state it carries, and leaves each of them at some contents. Nothing is said of the values.
-/
module

public import proofs.«01_k».proof.Proof.Gen.Kernel9Ideal.Frame.Runs

@[expose] public section

set_option maxRecDepth 16384

noncomputable section

namespace Cert.Kernel9Ideal.Core

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The core owns the memref, at some contents. -/
def held (c : Dev nD) {s : Shape} {e : EltTy} (M : Memref sig .tc .vmem s e) : sProp 𝕄 := iprop(∃ x, owns (c : Thread nD τ) M fullShare x)

/-- The resource `P` has the memref in it, at some contents. -/
def Has (c : Dev nD) (P : sProp 𝕄) {s : Shape} {e : EltTy} (M : Memref sig .tc .vmem s e) : Prop := ∃ R : sProp 𝕄, P ⊣⊢ iprop(R ∗ held c M)

theorem Has.head (c : Dev nD) {s : Shape} {e : EltTy} (M : Memref sig .tc .vmem s e) (P : sProp 𝕄) : Has c iprop(held c M ∗ P) M :=
  ⟨P, sep_comm⟩

theorem Has.last (c : Dev nD) {s : Shape} {e : EltTy} (M : Memref sig .tc .vmem s e) : Has (F := F) c (held c M) M :=
  ⟨iprop(emp), emp_sep.symm⟩

theorem Has.tail (c : Dev nD) {s : Shape} {e : EltTy} {M : Memref sig .tc .vmem s e} (A : sProp 𝕄) {P : sProp 𝕄} (h : Has c P M) : Has c iprop(A ∗ P) M := by
  obtain ⟨R, h⟩ := h
  refine ⟨iprop(A ∗ R), ?_⟩
  exact (sep_congr_right h).trans sep_assoc.symm

/-- The program runs with `P` in hand and gives it back. -/
def Keeps (c : Dev nD) (E : Set ℕ) (P : sProp 𝕄) {α : Type} (p : Prog (TpuEff nD τ sig (Elt F) Λ₀ .tc) α) : Prop :=
  P ⊢ wp frame (wpE (defs₀ (F := F)) Variants.none c none) E p (fun _ => P)

theorem Keeps.ret {c : Dev nD} {E : Set ℕ} {P : sProp 𝕄} {α : Type} (a : α) : Keeps (F := F) c E P (pure a) := le_wp_ret _ _ _ a fun _ => P

theorem Keeps.bind {c : Dev nD} {E : Set ℕ} {P : sProp 𝕄} {α β : Type} {p : Prog (TpuEff nD τ sig (Elt F) Λ₀ .tc) α} {k : α → Prog (TpuEff nD τ sig (Elt F) Λ₀ .tc) β}
    (hp : Keeps (F := F) c E P p) (hk : ∀ a, Keeps (F := F) c E P (k a)) : Keeps (F := F) c E P (p >>= k) := by
  unfold Keeps at *
  rw [wp_bind]
  exact hp.trans (wp_mono _ _ _ fun a => hk a)

theorem Keeps.dite {c : Dev nD} {E : Set ℕ} {P : sProp 𝕄} {α : Type} {b : Prop} [Decidable b] {p : b → Prog (TpuEff nD τ sig (Elt F) Λ₀ .tc) α} {q : ¬b → Prog (TpuEff nD τ sig (Elt F) Λ₀ .tc) α}
    (hp : ∀ h, Keeps (F := F) c E P (p h)) (hq : ∀ h, Keeps (F := F) c E P (q h)) : Keeps (F := F) c E P (dite b p q) := by
  by_cases h : b
  · rw [dif_pos h]; exact hp h
  · rw [dif_neg h]; exact hq h

/-- What a program keeps it may use and hand on. -/
theorem Keeps.run {c : Dev nD} {E : Set ℕ} {P : sProp 𝕄} {p : Prog (TpuEff nD τ sig (Elt F) Λ₀ .tc) PUnit} (h : Keeps (F := F) c E P p)
    (K : PUnit → sProp 𝕄) : iprop(P ∗ (P -∗ K ⟨⟩)) ⊢ wp frame (wpE (defs₀ (F := F)) Variants.none c none) E p K := by
  unfold Keeps at h
  exact (sep_mono_left h).trans ((wp_frame_r _ _ _).trans (wp_mono _ _ _ fun _ => wand_elim_right))

/-- A memref taken out at its contents goes back at any. -/
theorem back {c : Dev nD} {P : sProp 𝕄} {s : Shape} {e : EltTy} {M : Memref sig .tc .vmem s e} {R : sProp 𝕄} (hP : P ⊣⊢ iprop(R ∗ held c M))
    (f : Buf (Elt F) (M.view.loc (c : Thread nD τ))) : iprop(R ∗ (M.view.loc (c : Thread nD τ) ↦[M.view.set]{fullShare} f)) ⊢ P := by
  refine BIBase.Entails.trans ?_ hP.2
  unfold held owns
  iintro ⟨HR, H⟩
  isplitl [HR]
  · iexact HR
  iexists _; iexists f; isplitr
  · ipureintro; rfl
  iexact H

/-- A program may use the memref at whatever it holds. -/
theorem Keeps.use {c : Dev nD} {E : Set ℕ} {P : sProp 𝕄} {α : Type} {s : Shape} {e : EltTy} {M : Memref sig .tc .vmem s e} {p : Prog (TpuEff nD τ sig (Elt F) Λ₀ .tc) α} {R : sProp 𝕄}
    (hP : P ⊣⊢ iprop(R ∗ held c M))
    (h : ∀ f, iprop(R ∗ (M.view.loc (c : Thread nD τ) ↦[M.view.set]{fullShare} f)) ⊢ wp frame (wpE (defs₀ (F := F)) Variants.none c none) E p (fun _ => P)) :
    Keeps (F := F) c E P p := by
  refine hP.1.trans ?_
  unfold held owns
  iintro ⟨HR, %x, %f, -, H⟩
  iapply (h f)
  isplitl [HR]
  · iexact HR
  iexact H

theorem Keeps.load {c : Dev nD} {E : Set ℕ} {P : sProp 𝕄} {s : Shape} {e : EltTy} {M : Memref sig .tc .vmem s e} {r : LoadRect s} {hl : M.view.LoadsAt r} (hM : Has c P M) :
    Keeps (F := F) c E P (Prog.lift (.load M r hl)) := by
  obtain ⟨R, hP⟩ := hM
  refine Keeps.use hP fun f => ?_
  refine exec_frame_id (R := R) (H := (M.view.loc (c : Thread nD τ) ↦[M.view.set]{fullShare} f)) ⟨.rfl, .rfl⟩
    (wp_load Variants.none (c : Thread nD τ) none E (m := M) (r := r) (hl := hl) (k := .ret) (View.setOn_subset_set _ _)) ?_
  exact (back hP f).trans (le_wp_ret _ _ _ _ fun _ => P)

/-- The load of a row of a window, its first axis dropped. -/
theorem Keeps.loadRow {c : Dev nD} {E : Set ℕ} {P : sProp 𝕄} {s s' : Shape} {e : EltTy} {M : Memref sig .tc .vmem s e} {r₀ : Rect s} {h₀ : ∀ a, r₀.stride a = 1}
    {hq : r₀.shape.Squeezes s'} {r : LoadRect s'} {hl : ((M.slice r₀ h₀).squeeze s' hq).view.LoadsAt r} (hM : Has c P M) :
    Keeps (F := F) c E P (Prog.lift (.load ((M.slice r₀ h₀).squeeze s' hq) r hl)) := by
  obtain ⟨R, hP⟩ := hM
  refine Keeps.use hP fun f => ?_
  refine exec_frame_id (R := R) (H := (M.view.loc (c : Thread nD τ) ↦[M.view.set]{fullShare} f)) ⟨.rfl, .rfl⟩
    (wp_load Variants.none (c : Thread nD τ) none E (m := (M.slice r₀ h₀).squeeze s' hq) (r := r) (hl := hl) (k := .ret) ?_) ?_
  · exact (View.setOn_subset_set _ _).trans ((Finset.subset_of_eq (View.set_reshape _ _)).trans (View.set_slice_subset _ _))
  · exact (back hP f).trans (le_wp_ret _ _ _ _ fun _ => P)

theorem Keeps.store {c : Dev nD} {E : Set ℕ} {P : sProp 𝕄} {s : Shape} {e : EltTy} {M : Memref sig .tc .vmem s e} {r : Rect s} {w : r.shape.Idx → Elt F e} {Mk : Finset r.shape.Idx}
    {hx : (M.access r).Stores Mk} {hm : Mk = Finset.univ ∨ ∀ a, r.stride a = 1} (hM : Has c P M) :
    Keeps (F := F) c E P (Prog.lift (.store M r w Mk hx hm)) := by
  obtain ⟨R, hP⟩ := hM
  refine Keeps.use hP fun f => ?_
  refine exec_frame (R := R) (H := (M.view.loc (c : Thread nD τ) ↦[M.view.set]{fullShare} f))
    (H' := (M.view.loc (c : Thread nD τ) ↦[M.view.set]{fullShare} (M.access r).write (Elt F) f w Mk)) ⟨.rfl, .rfl⟩ ⟨.rfl, .rfl⟩
    (wp_store Variants.none (c : Thread nD τ) none E (m := M) (r := r) (f := f) (hx := hx) (hm := hm) (k := .ret) ((View.setOn_subset_set _ _).trans (View.set_slice_subset _ _))) ?_
  exact (back hP _).trans (le_wp_ret _ _ _ _ fun _ => P)

set_option maxHeartbeats 40000000 in
/-- The body keeps its windows and its scratch, at a chunk that starts a sequence and at any other. -/
theorem body (c : Dev nD) (i : grid0.Coords) {arg2 : Memref sig .tc .vmem S128x1024 .f32} {harg2 : arg2.IsWhole} {arg3 : Memref sig .tc .vmem S128x1024 .f32} {harg3 : arg3.IsWhole} {arg4 : Memref sig .tc .vmem S128x128 .f32} {harg4 : arg4.IsWhole} {arg5 : Memref sig .tc .vmem S128x128 .f32} {harg5 : arg5.IsWhole} {arg6 : Memref sig .tc .vmem S1x128x48 .f32} {harg6 : arg6.IsWhole} {arg7 : Memref sig .tc .vmem S1x16x128 .f32} {harg7 : arg7.IsWhole} {arg8 : Memref sig .tc .vmem S128x1024 .f32} {harg8 : arg8.IsWhole} {arg9 : Memref sig .tc .vmem S128x1024 .f32} {harg9 : arg9.IsWhole} {arg10 : Memref sig .tc .vmem S128x128 .f32} {harg10 : arg10.IsWhole} {arg11 : Memref sig .tc .vmem S128x128 .f32} {harg11 : arg11.IsWhole} {arg12 : Memref sig .tc .vmem S1x128x48 .f32} {harg12 : arg12.IsWhole} {arg13 : Memref sig .tc .vmem S1x16x128 .f32} {harg13 : arg13.IsWhole} {arg14 : Memref sig .tc .vmem S8x4x1024 .f32} {harg14 : arg14.IsWhole} {arg15 : Memref sig .tc .vmem S8x1x1024 .f32} {harg15 : arg15.IsWhole} {arg16 : Memref sig .tc .vmem S8x4x128 .f32} {harg16 : arg16.IsWhole} {arg17 : Memref sig .tc .vmem S8x1x128 .f32} {harg17 : arg17.IsWhole} {arg18 : Memref sig .tc .vmem S8x4x128 .f32} {harg18 : arg18.IsWhole} {arg19 : Memref sig .tc .vmem S8x1x128 .f32} {harg19 : arg19.IsWhole} {arg20 : Memref sig .tc .vmem S8x1x1x48 .f32} {harg20 : arg20.IsWhole} {arg21 : Memref sig .tc .vmem S8x1x16x1 .f32} {harg21 : arg21.IsWhole} {arg22 : Memref sig .tc .vmem S8x1x1x48 .f32} {harg22 : arg22.IsWhole} {arg23 : Memref sig .tc .vmem S8x1x16x1 .f32} {harg23 : arg23.IsWhole} {arg24 : Memref sig .tc .vmem S8x1x1024 .f32} {harg24 : arg24.IsWhole} {arg25 : Memref sig .tc .vmem S8x1x1024 .f32} {harg25 : arg25.IsWhole} {arg26 : Memref sig .tc .vmem S48x1024 .bf16} {harg26 : arg26.IsWhole} {arg27 : Memref sig .tc .vmem S128x2048 .bf16} {harg27 : arg27.IsWhole} {arg28 : Memref sig .tc .vmem S128x1024 .f32} {harg28 : arg28.IsWhole} {arg29 : Memref sig .tc .vmem S136x1024 .f32} {harg29 : arg29.IsWhole} {arg30 : Memref sig .tc .vmem S136x128 .f32} {harg30 : arg30.IsWhole} {arg31 : Memref sig .tc .vmem S136x128 .f32} {harg31 : arg31.IsWhole} {arg32 : Memref sig .tc .vmem S128x1024 .f32} {harg32 : arg32.IsWhole} {arg33 : Memref sig .tc .vmem S128x1024 .f32} {harg33 : arg33.IsWhole} {arg34 : Memref sig .tc .vmem S136x1024 .f32} {harg34 : arg34.IsWhole} {arg35 : Memref sig .tc .vmem S136x128 .f32} {harg35 : arg35.IsWhole} {arg36 : Memref sig .tc .vmem S136x128 .f32} {harg36 : arg36.IsWhole} {arg37 : Memref sig .tc .vmem S128x1024 .f32} {harg37 : arg37.IsWhole} (E : Set ℕ) :
    Keeps (F := F) c E iprop(held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ held c arg30 ∗ held c arg31 ∗ held c arg32 ∗ held c arg33 ∗ held c arg34 ∗ held c arg35 ∗ held c arg36 ∗ held c arg37) (cc0_ssd_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) := by
  simp only [cc0_ssd_core_eq_skeleton, cc0_ssd_core_skel]
  simp only [k0_part2_eq_skeleton, k0_part2_skel, k0_part1_eq_skeleton, k0_part1_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel]
  repeat' with_reducible first
    | refine Keeps.bind ?_ fun _ => ?_
    | refine Keeps.dite (fun _ => ?_) fun _ => ?_
    | exact Has.head _ _ _
    | exact Has.last _ _
    | refine Has.tail _ _ ?_
    | refine Keeps.loadRow ?_
    | refine Keeps.load ?_
    | refine Keeps.store ?_
    | exact Keeps.ret _

/-- The body table's row at point `t`'s slots is the body at its staging buffers. -/
theorem row (t : Fin cfg0.N) : defs₀ (F := F) .tc cfg0.body (cfg0.bodyArgs t (cfg0.slots t)) = bodyAt0 t := by
  unfold defs₀; rw [Defs.onTc_tc]

/-- Every window is forgotten: the obligation says only that its buffer is owned. -/
abbrev fgt : Fin cfg0.W → Bool := fun _ => true

variable (m : (ℓ : Loc nD τ sig) → Buf (Elt F) ℓ) (ρ : Dev nD → PrngReg)

/-- The launch's data: the arrays as the region finds them, no name for what a window holds after a point. -/
def dats (_ : Fin 1) (c : Dev nD) : Pipeline.Dat τ (Elt F) Unit ℕ (UR sig nD τ) ℕ cfg0 c where
  A w := V m c (Pipeline.arrRef spec0 w)
  after := Pipeline.Dat.unnamed
  Φ _ := Pipeline.ΦA spec0 c
  q w := Pipeline.shareOf spec0 w
  owed _ := 0

/-- All that the body needs at a point and gives back. -/
def kept (c : Dev nD) (t : Fin cfg0.N) : sProp 𝕄 :=
  iprop(Pipeline.ΦA spec0 c ∗ (dats m 0 c).owesAt () t.castSucc ∗ held c (ms0_0 t) ∗ held c (ms0_1 t) ∗ held c (ms0_2 t) ∗ held c (ms0_3 t) ∗ held c (ms0_4 t) ∗ held c (ms0_5 t) ∗ held c (ms0_6 t) ∗ held c (ms0_7 t) ∗ held c (ms0_8 t) ∗ held c (ms0_9 t) ∗ held c (ms0_10 t) ∗ held c (ms0_11 t) ∗ held c (ms0_12 t) ∗ held c (ms0_13 t) ∗ held c (ms0_14 t) ∗ held c (ms0_15 t) ∗ held c (ms0_16 t) ∗ held c (ms0_17 t) ∗ held c (ms0_18 t) ∗ held c (ms0_19 t) ∗ held c (ms0_20 t) ∗ held c (ms0_21 t) ∗ held c (ms0_22 t) ∗ held c (ms0_23 t) ∗ held c (ms0_24 t) ∗ held c (ms0_25 t))

/-- What the launch keeps between points: the scratch and the generator's register. -/
theorem scratch (c : Dev nD) :
    (Pipeline.ΦA spec0 c : sProp 𝕄) = iprop(iprop(held c scM0_0 ∗ held c scM0_1 ∗ held c scM0_2 ∗ held c scM0_3 ∗ held c scM0_4 ∗ held c scM0_5 ∗ held c scM0_6 ∗ held c scM0_7 ∗ held c scM0_8 ∗ held c scM0_9) ∗ (∃ r, prngReg c r)) :=
  PhiA0_eq c

theorem point (c : Dev nD) (t : Fin cfg0.N) :
    kept m c t ⊢ wp frame (wpE (defs₀ (F := F)) Variants.none c none) Set.univ (bodyAt0 t) (fun _ => kept m c t) := by
  unfold kept
  rw [scratch]
  iintro ⟨⟨⟨S0, S1, S2, S3, S4, S5, S6, S7, S8, S9⟩, Hp⟩, Ho, H0, H1, H2, H3, H4, H5, H6, H7, H8, H9, H10, H11, H12, H13, H14, H15, H16, H17, H18, H19, H20, H21, H22, H23, H24, H25⟩
  unfold bodyAt0
  iapply (Keeps.run (body c (grid0.coords t) Set.univ) _)
  isplitl [H0 H1 H2 H3 H4 H5 H6 H7 H8 H9 H10 H11 H12 H13 H14 H15 H16 H17 H18 H19 H20 H21 H22 H23 H24 H25 S0 S1 S2 S3 S4 S5 S6 S7 S8 S9]
  · iframe
  iintro ⟨H0, H1, H2, H3, H4, H5, H6, H7, H8, H9, H10, H11, H12, H13, H14, H15, H16, H17, H18, H19, H20, H21, H22, H23, H24, H25, S0, S1, S2, S3, S4, S5, S6, S7, S8, S9⟩
  isplitl [S0 S1 S2 S3 S4 S5 S6 S7 S8 S9 Hp]
  · isplitl [S0 S1 S2 S3 S4 S5 S6 S7 S8 S9]
    · iframe
    · iexact Hp
  iframe

theorem obligation (c : Dev nD) : Pipeline.BodyObligationLoose (dats (F := F) m 0 c) (defs₀ (F := F)) Variants.none () Set.univ fgt := fun t => by
  rw [bigSep_W0, row]
  exact triple_restated (point m c t) rfl .rfl fun _ => .rfl

set_option backward.isDefEq.respectTransparency.types false in
/-- The launch ends, with its arguments as they were and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_track_forget_shared (dats := dats m) cfgs (0 : Fin 1) launch₀0 defs₀ Variants.none fgt m ρ main
    (hbody := obligation m) (hq := fun _ _ _ => rfl) (howed := fun _ _ => rfl) (V := V m) (hmain := hmain m Variants.none)
    (hA := fun _ _ => rfl) (hin := fun _ => .rfl) (hout := fun _ => .rfl) (Q' := _)
    (hQ' := fun r h => ⟨fun c => by
      have rest {b : Ref sig .tc} (hb : b ∈ Pipeline.restRefs sig spec0) (hV : V m c b = m ((c.tc : Thread nD τ).loc b)) :
          r.2.mem ((c.tc : Thread nD τ).loc b) = m ((c.tc : Thread nD τ).loc b) := ((h.1 c).2 b hb).trans hV
      have h0 := (h.1 c).1 9
      rw [Pipeline.RDat.ArrAt_in _ 9 rfl] at h0
      exact ⟨h0.trans (V_main_arg0 m c),
        rest (Pipeline.mem_restRefs_of _ (by decide) (by decide)) (V_main_arg1 m c),
        rest (Pipeline.mem_restRefs_of _ (by decide) (by decide)) (V_main_arg2 m c),
        rest (Pipeline.mem_restRefs_of _ (by decide) (by decide)) (V_main_arg3 m c),
        rest (Pipeline.mem_restRefs_of _ (by decide) (by decide)) (V_main_arg4 m c),
        rest (Pipeline.mem_restRefs_of _ (by decide) (by decide)) (V_main_arg5 m c),
        rest (Pipeline.mem_restRefs_of _ (by decide) (by decide)) (V_main_arg6 m c),
        rest (Pipeline.mem_restRefs_of _ (by decide) (by decide)) (V_main_arg7 m c)⟩, h.2⟩)

end Cert.Kernel9Ideal.Core

end
-- ==== Proof.lean ====
/-
  The proof of `Cert.Claim`: the pool layer of the kernel runs and leaves its arguments and semaphores as they were, the
  reference does, and over the extended reals both leave the same layer, for real inputs, norm weights and projections.
  The same for the projections of the SSD and the MoBA layers and for the heads the MoBA attention reads, there for all
  arguments; of the MoBA attention itself the frame alone.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.Pre_finite_layer
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Run
public import proofs.«01_k».proof.Proof.Same
public import proofs.«01_k».proof.Proof.Finite
public import proofs.«01_k».proof.Proof.SsdIn
public import proofs.«01_k».proof.Proof.SsdWide
public import proofs.«01_k».proof.Proof.SsdOut
public import proofs.«01_k».proof.Proof.MobaIn
public import proofs.«01_k».proof.Proof.MobaOut
public import proofs.«01_k».proof.Proof.MobaPrepRun
public import proofs.«01_k».proof.Proof.MobaPrepRef
public import proofs.«01_k».proof.Proof.SsdCore
public import Idealize.ShloMosaic.Lib.Claim
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame, from its run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same layer. -/
theorem layers : Cert.algebraic_KernelIdeal_ReferenceIdeal_pre_finite_layer := by
  intro m g m' g' hpre hagree
  refine ⟨fun c => Cert.ReferenceIdeal.Value.res_main_v91 m' c, ?_, Cert.ReferenceIdeal.Value.run (F := Ideal) m' g'⟩
  refine (θ_run Cert.KernelIdeal.defs _ _).mono (fun r h c => ⟨(h c).1.trans ?_, (h c).2⟩) (Cert.KernelIdeal.Layer.run (F := Ideal) m g)
  obtain ⟨h0, h1, h2, h3, h4, h5, h6⟩ := hagree c
  obtain ⟨f0, f1, f2⟩ := Cert.LayerMath.finite_args _ _ _ _ _ _ _ (hpre c)
  refine (Cert.KernelIdeal.Layer.result_eq m g c).trans ((Cert.Same.layer_eq _ _ _ _ _ _ _ f0 f1 f2).trans ?_)
  refine Eq.trans ?_ (Cert.ReferenceIdeal.Layer.res_eq m' c).symm
  rw [h0, h1, h2, h3, h4, h5, h6]

/-- The reference's frame for the SSD layer's norm and time-step projection. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference's frame for the SSD layer's output projection. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's frame for the MoBA layer's norm and input projection. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's frame for the MoBA layer's output projection. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's frame for the SSD layer's wide input projection. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference leave the same in the SSD layer's norm and time-step projection. -/
theorem same2 : Cert.algebraic_Kernel2Ideal_Reference2Ideal := by
  intro m g m' g' _ hagree
  refine ⟨fun c => truncf .bf16 (Cert.Reference2Ideal.Layer.unit (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) Cert.Reference2Ideal.Gen.bitsLt_bf16_f32, fun c => Cert.Reference2Ideal.Layer.cols (Cert.Reference2Ideal.Layer.unit (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg2)), ?_, Cert.Reference2Ideal.Value.run (F := Ideal) m' g'⟩
  refine (θ_run Cert.Kernel2Ideal.defs _ _).mono (fun r h c => ⟨(h c).1.trans ?_, (h c).2.1.trans ?_, (h c).2.2⟩) (Cert.Kernel2Ideal.Layer.run (F := Ideal) m g)
  all_goals obtain ⟨h0, h1, h2⟩ := hagree c
  · refine (Cert.Kernel2Ideal.Layer.rows_eq m g c).trans ((Cert.Reference2Ideal.Layer.unit_eq _ _ _).symm.trans ?_)
    beta_reduce
    rw [h0, h1]
    rfl
  · refine (Cert.Kernel2Ideal.Layer.steps_eq m g c).trans ?_
    beta_reduce
    rw [Cert.Reference2Ideal.Layer.cols_eq, h0, h1, h2, Cert.Reference2Ideal.Layer.unit_eq]

/-- Kernel and reference leave the same in the SSD layer's output projection. -/
theorem same3 : Cert.algebraic_Kernel3Ideal_Reference3Ideal := by
  intro m g m' g' _ hagree
  refine ⟨fun c => Cert.Reference3Ideal.Layer.out (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)), ?_, Cert.Reference3Ideal.Value.run (F := Ideal) m' g'⟩
  refine (θ_run Cert.Kernel3Ideal.defs _ _).mono (fun r h c => ⟨(h c).1.trans ?_, (h c).2⟩) (Cert.Kernel3Ideal.Layer.run (F := Ideal) m g)
  obtain ⟨h0, h1, h2⟩ := hagree c
  refine (Cert.Kernel3Ideal.Layer.result_eq m g c).trans ((Cert.Reference3Ideal.Layer.out_eq _ _ _).trans ?_)
  beta_reduce
  rw [h0, h1, h2]

/-- Kernel and reference leave the same in the MoBA layer's norm and input projection. -/
theorem same4 : Cert.algebraic_Kernel4Ideal_Reference4Ideal := by
  intro m g m' g' _ hagree
  refine ⟨fun c => Cert.Reference4Ideal.Layer.wide (Cert.Reference4Ideal.Layer.unit (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg2)), ?_, Cert.Reference4Ideal.Value.run (F := Ideal) m' g'⟩
  refine (θ_run Cert.Kernel4Ideal.defs _ _).mono (fun r h c => ⟨(h c).1.trans ?_, (h c).2⟩) (Cert.Kernel4Ideal.Layer.run (F := Ideal) m g)
  obtain ⟨h0, h1, h2⟩ := hagree c
  refine (Cert.Kernel4Ideal.Layer.result_eq m g c).trans ?_
  beta_reduce
  rw [Cert.Reference4Ideal.Layer.wide_eq, h0, h1, h2, Cert.Reference4Ideal.Layer.unit_eq]

/-- Kernel and reference leave the same in the MoBA layer's output projection. -/
theorem same5 : Cert.algebraic_Kernel5Ideal_Reference5Ideal := by
  intro m g m' g' _ hagree
  refine ⟨fun c => Cert.Reference5Ideal.Layer.out (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)), ?_, Cert.Reference5Ideal.Value.run (F := Ideal) m' g'⟩
  refine (θ_run Cert.Kernel5Ideal.defs _ _).mono (fun r h c => ⟨(h c).1.trans ?_, (h c).2⟩) (Cert.Kernel5Ideal.Layer.run m g)
  obtain ⟨h0, h1, h2⟩ := hagree c
  refine (Cert.Reference5Ideal.Layer.out_eq _ _ _).trans ?_
  beta_reduce
  rw [h0, h1, h2]

/-- Kernel and reference leave the same in the SSD layer's wide input projection. -/
theorem same7 : Cert.algebraic_Kernel7Ideal_Reference7Ideal := by
  intro m g m' g' _ hagree
  refine ⟨fun c => Cert.Reference7Ideal.Layer.out (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)), ?_, Cert.Reference7Ideal.Value.run (F := Ideal) m' g'⟩
  refine (θ_run Cert.Kernel7Ideal.defs _ _).mono (fun r h c => ⟨(h c).1.trans ?_, (h c).2⟩) (Cert.Kernel7Ideal.Value.run_blocks m g)
  obtain ⟨h0, h1⟩ := hagree c
  refine (Cert.Kernel7Ideal.Layer.wide_arr m c).trans ((Cert.Reference7Ideal.Layer.out_eq _ _).trans ?_)
  beta_reduce
  rw [h0, h1]

/-- The two named constants of the attention: the table gives the scale and the mask their values. -/
theorem named6 : Cert.preserves_Kernel6_Kernel6Ideal :=
  ⟨IdealRules.named_const.statement _ "s" _ _ _ rfl, IdealRules.named_const.statement _ "mask" _ _ _ rfl⟩

/-- The preparation's reference: its frame. -/
theorem frame_reference8 : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

open Cert.Reference8Ideal.Layer in
/-- The MoBA layer's preparation is the reference's. -/
theorem same8 : Cert.algebraic_Kernel8Ideal_Reference8Ideal := by
  intro m g m' g' _ hagree
  refine ⟨fun c => outQ (weighted (headsQ (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg1))),
    fun c => outK (weighted (headsK (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg2))) (hot blockNum),
    fun c => outK (headsV (m' ((c.tc : Thread Cert.Reference8Ideal.nD Cert.Reference8Ideal.τ).loc Cert.Reference8Ideal.main_arg0))) ones,
    fun c => outM (weighted (headsK (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg2))),
    ?_, Cert.Reference8Ideal.Value.run (F := Ideal) m' g'⟩
  refine (θ_run Cert.Kernel8Ideal.defs _ _).mono (fun r h c => ⟨(h c).1.trans ?_, (h c).2.1.trans ?_, (h c).2.2.1.trans ?_,
    (h c).2.2.2.1.trans ?_, (h c).2.2.2.2⟩) (Cert.Kernel8Ideal.Value.run_blocks m g) <;> obtain ⟨h0, h1, h2⟩ := hagree c <;> beta_reduce
  · rw [h0, h1]
    exact (Cert.Kernel8Ideal.Layer.arr_q m c).trans (outQ_eq _ _ _).symm
  · rw [h0, h2]
    exact (Cert.Kernel8Ideal.Layer.arr_k m c).trans (outK_eq _ _ _).symm
  · rw [h0]
    exact (Cert.Kernel8Ideal.Layer.arr_v m c).trans (outV_eq _).symm
  · rw [h0, h2]
    exact (Cert.Kernel8Ideal.Layer.arr_m m c).trans (outM_eq _ _ _).symm

set_option maxRecDepth 16384 in
set_option maxHeartbeats 0 in
set_option smartUnfolding false in
/-- The SSD core's frame; nothing is rewritten in it, so the run of the idealized kernel is the kernel's, at the bits. -/
theorem frame_kernel9 : Cert.quiescent_Kernel9 := fun m ρ _ =>
  (θ_run Cert.Kernel9Ideal.defs _ _).mono (fun _ h => h) (Cert.Kernel9Ideal.Core.run_main (F := Bits) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel6.Gen.facts, Cert.Kernel6Ideal.Gen.facts,
  Cert.Kernel8.Gen.facts, Cert.Kernel8Ideal.Gen.facts, Cert.Reference8Ideal.Gen.facts,
  Cert.Kernel9.Gen.facts, Cert.Kernel9Ideal.Gen.facts,
  Cert.Pre_finite_layer.Gen.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel7.Gen.frame m ρ, fun m ρ _ => Cert.Kernel7Ideal.Gen.frame m ρ, frame_reference7,
  fun m ρ _ => Cert.Kernel6.Gen.frame m ρ, fun m ρ _ => Cert.Kernel6Ideal.Gen.frame m ρ,
  fun m ρ _ => Cert.Kernel8.Gen.frame m ρ, fun m ρ _ => Cert.Kernel8Ideal.Gen.frame m ρ, frame_reference8,
  frame_kernel9, fun m ρ _ => Cert.Kernel9Ideal.Core.run_main m ρ,
  trivial, layers, trivial, same2, trivial, same3, trivial, same4, trivial, same5, trivial, same7,
  named6, trivial, same8, trivial⟩

end Cert.Proof

end
